-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17_0) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v17_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24576x8192 : Shape := ⟨2, ![24576, 8192]⟩
abbrev S8192x8192 : Shape := ⟨2, ![8192, 8192]⟩
abbrev S8192x64 : Shape := ⟨2, ![8192, 64]⟩
abbrev S1024x1024 : Shape := ⟨2, ![1024, 1024]⟩
abbrev S1024x64 : Shape := ⟨2, ![1024, 64]⟩
abbrev S32x64 : Shape := ⟨2, ![32, 64]⟩
abbrev S32x1024 : Shape := ⟨2, ![32, 1024]⟩
abbrev S32x128 : Shape := ⟨2, ![32, 128]⟩
abbrev S32 : Shape := ⟨1, ![32]⟩
abbrev S32x1 : Shape := ⟨2, ![32, 1]⟩

abbrev nBuf : Space → Nat
  | .hbm => 6
  | .vmem => 13
  | .smem => 0
  | _ => 0

abbrev bufTy : (tb : Table) → Fin (tcTables nBuf tb) → BufTy
  | .hbm, ⟨0, _⟩ => ⟨S24576x8192, .bf16⟩
  | .hbm, ⟨1, _⟩ => ⟨S24576x8192, .bf16⟩
  | .hbm, ⟨2, _⟩ => ⟨S8192x8192, .f32⟩
  | .hbm, ⟨3, _⟩ => ⟨S8192x8192, .i8⟩
  | .hbm, ⟨4, _⟩ => ⟨S8192x64, .f32⟩
  | .hbm, ⟨5, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .i8⟩
  | .local _ .vmem, ⟨7, _⟩ => ⟨S1024x1024, .i8⟩
  | .local _ .vmem, ⟨8, _⟩ => ⟨S1024x64, .f32⟩
  | .local _ .vmem, ⟨9, _⟩ => ⟨S1024x64, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S24576x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 24], ![false, false, false]⟩

def k0_cond2 (i : grid0.Coords) : BitVec 1 :=
  let arg2 : BitVec 32 := BitVec.ofNat 32 (i 2).val
  let c23_i32 : BitVec 32 := 23#32
  let v11 : BitVec 1 := Scalar.cmpi .eq arg2 c23_i32
  let v12 : BitVec 32 := Scalar.extui v11
  let c0_i32_8 : BitVec 32 := 0#32
  let v13 : BitVec 1 := Scalar.cmpi .ne v12 c0_i32_8
  v13

@[reducible] def k0_t1_loop : Scf.Loop 32 :=
  let c0_i32_9 : BitVec 32 := 0#32
  let c32_i32 : BitVec 32 := 32#32
  let v15 : BitVec 32 := Scalar.addi c0_i32_9 c32_i32
  let c1_i32 : BitVec 32 := 1#32
  ⟨c0_i32_9, v15, c1_i32⟩
def k0_mult1 (k0_t1 : Fin k0_t1_loop.trips) : BitVec 32 :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  v18
def k0_off1 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v19 : BitVec 32 := v18
  let v20 : Index := Scalar.indexCast v19
  let c0_14 : Index := 0#32
  ![v20.toNat, 0]
def k0_off2 (k0_t1 : Fin k0_t1_loop.trips) : Fin 2 → Nat :=
  let c0_i32_12 : BitVec 32 := 0#32
  let c0_i32_9 : BitVec 32 := 0#32
  let c1_i32 : BitVec 32 := 1#32
  let arg10 : BitVec 32 := Scf.iv c0_i32_9 c1_i32 k0_t1
  let c1_i32_11 : BitVec 32 := 1#32
  let v16 : BitVec 32 := Scalar.muli arg10 c1_i32_11
  let v17 : BitVec 32 := Scalar.addi c0_i32_12 v16
  let c32_i32_13 : BitVec 32 := 32#32
  let v18 : BitVec 32 := Scalar.muli v17 c32_i32_13
  let v19 : BitVec 32 := v18
  let v216 : Index := Scalar.indexCast v19
  let c0_65 : Index := 0#32
  ![v216.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S24576x8192 : Shape := ⟨2, ![24576, 8192]⟩
abbrev S8192x8192 : Shape := ⟨2, ![8192, 8192]⟩
abbrev S8192x64x128 : Shape := ⟨3, ![8192, 64, 128]⟩
abbrev S_ : Shape := ⟨0, ![]⟩
abbrev S8192x64 : Shape := ⟨2, ![8192, 64]⟩
abbrev S8192x64x1 : Shape := ⟨3, ![8192, 64, 1]⟩

abbrev nBuf : Space → Nat
  | .hbm => 34
  | .vmem => 5
  | .smem => 0
  | _ => 0

abbrev bufTy : (tb : Table) → Fin (tcTables nBuf tb) → BufTy
  | .hbm, ⟨0, _⟩ => ⟨S24576x8192, .bf16⟩
  | .hbm, ⟨1, _⟩ => ⟨S24576x8192, .bf16⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x64x128, .f32⟩
  | .hbm, ⟨6, _⟩ => ⟨S8192x64x128, .f32⟩
  | .hbm, ⟨7, _⟩ => ⟨S_, .f32⟩
  | .hbm, ⟨8, _⟩ => ⟨S8192x64, .f32⟩
  | .hbm, ⟨9, _⟩ => ⟨S_, .f32⟩
  | .hbm, ⟨10, _⟩ => ⟨S8192x64, .f32⟩
  | .hbm, ⟨11, _⟩ => ⟨S8192x64, .i1⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S_, .f32⟩
  | .hbm, ⟨16, _⟩ => ⟨S8192x64, .f32⟩
  | .hbm, ⟨17, _⟩ => ⟨S8192x64, .f32⟩
  | .hbm, ⟨18, _⟩ => ⟨S8192x64x1, .f32⟩
  | .hbm, ⟨19, _⟩ => ⟨S8192x64x128, .f32⟩
  | .hbm, ⟨20, _⟩ => ⟨S8192x64x128, .f32⟩
  | .hbm, ⟨21, _⟩ => ⟨S8192x64x128, .f32⟩
  | .hbm, ⟨22, _⟩ => ⟨S_, .i32⟩
  | .hbm, ⟨23, _⟩ => ⟨S_, .i32⟩
  | .hbm, ⟨24, _⟩ => ⟨S_, .f32⟩
  | .hbm, ⟨25, _⟩ => ⟨S8192x64x128, .f32⟩
  | .hbm, ⟨26, _⟩ => ⟨S8192x64x128, .f32⟩
  | .hbm, ⟨27, _⟩ => ⟨S_, .f32⟩
  | .hbm, ⟨28, _⟩ => ⟨S8192x64x128, .f32⟩
  | .hbm, ⟨29, _⟩ => ⟨S8192x64x128, .f32⟩
  | .hbm, ⟨30, _⟩ => ⟨S8192x8192, .f32⟩
  | .hbm, ⟨31, _⟩ => ⟨S8192x8192, .f32⟩
  | .hbm, ⟨32, _⟩ => ⟨S8192x8192, .i8⟩
  | .hbm, ⟨33, _⟩ => ⟨S8192x8192, .f32⟩
  | .local _ .vmem, ⟨0, _⟩ => ⟨S8192x8192, .f32⟩
  | .local _ .vmem, ⟨1, _⟩ => ⟨S8192x8192, .f32⟩
  | .local _ .vmem, ⟨2, _⟩ => ⟨S8192x8192, .f32⟩
  | .local _ .vmem, ⟨3, _⟩ => ⟨S8192x8192, .i8⟩
  | .local _ .vmem, ⟨4, _⟩ => ⟨S8192x8192, .f32⟩
  | _, _ => ⟨S24576x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17_0 : Ref sig .tc := ⟨.hbm, 32, rfl⟩
abbrev main_v17_1 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KFrame.lean ====
/- The printed kernel's frame: every execution ends, the arguments as they were, every semaphore zero. Nothing is said here of
what the three output blocks hold. -/
module

public import proofs.«01_k».proof.Proof.Gen.Kernel.Frame
public import proofs.«01_k».proof.Proof.Gen.Kernel.Loops

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's first branch, from the grid coordinates. -/
abbrev cond0_0 (i : grid0.Coords) : Prop := (Scalar.cmpi .ne (Scalar.extui (Scalar.cmpi .eq (BitVec.ofNat 32 (i 2).val) 0#32)) 0#32) = 1#1
/-- The condition of the body's second branch, from the grid coordinates. -/
abbrev cond0_1 (i : grid0.Coords) : Prop := k0_cond2 i = 1#1

/-- What one point is handed and gives back: the inputs' blocks at their contents, the outputs' and the accumulator at any. -/
abbrev held (c : Dev nD) (arg3 arg4 : Memref sig .tc .vmem S1024x1024 .bf16) (arg5 : Memref sig .tc .vmem S1024x1024 .f32) (arg6 : Memref sig .tc .vmem S1024x1024 .i8)
    (arg7 : Memref sig .tc .vmem S1024x64 .f32) (arg8 arg9 : Memref sig .tc .vmem S1024x1024 .f32)
    (x0 x1 : Vec F S1024x1024 .bf16) (x2 : Vec F S1024x1024 .f32) : sProp 𝕄 :=
  iprop(owns (c : Thread nD τ) arg3 fullShare x0 ∗ owns (c : Thread nD τ) arg4 fullShare x1 ∗ owns (c : Thread nD τ) arg5 fullShare x2
    ∗ (∃ d, owns (c : Thread nD τ) arg6 fullShare d) ∗ (∃ d, owns (c : Thread nD τ) arg7 fullShare d) ∗ (∃ d, owns (c : Thread nD τ) arg8 fullShare d)
    ∗ (∃ d, owns (c : Thread nD τ) arg9 fullShare d))

/-- The body at any point, whichever branches it takes, gives back what it is handed. -/
theorem run_held (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole)
    (x0 x1 : Vec F S1024x1024 .bf16) (x2 : Vec F S1024x1024 .f32) (E : Set ℕ) (K : PUnit → sProp 𝕄) :
    iprop(held c arg3 arg4 arg5 arg6 arg7 arg8 arg9 x0 x1 x2 ∗ (held c arg3 arg4 arg5 arg6 arg7 arg8 arg9 x0 x1 x2 -∗ K ⟨⟩))
      ⊢ wp frame (wpE (defs₀ (F := F)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold held owns
  iintro ⟨⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, ⟨%ds0, %fs0, %hfs0, HS0⟩⟩, Hk⟩
  by_cases hc0 : cond0_0 i <;> by_cases hc1 : cond0_1 i
  all_goals
    sl_exec (disch := first | sl_exact hc0 | sl_exact hc1)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact HS0
    ipureintro; rfl

/-! ## The proof data -/

/-- The windows whose contents the frame does not name: the three outputs. -/
def outs : Fin cfg0.W → Bool
  | ⟨3, _⟩ | ⟨4, _⟩ | ⟨5, _⟩ => true
  | _ => false

/-- The accumulator as the kernel is handed it. -/
abbrev scM : Memref sig .tc .vmem S1024x1024 .f32 := Memref.whole cc0_scratch0

/-- The invariant between points: the accumulator at some contents. -/
theorem PhiA0_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data: the arrays as the region finds them, each input's buffer at its block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) (⟨3, h⟩ : Fin cfg0.W) t
    | ⟨4, h⟩ => Dat.unnamed (cfg := cfg0) (⟨4, h⟩ : Fin cfg0.W) t
    | ⟨5, h⟩ => Dat.unnamed (cfg := cfg0) (⟨5, h⟩ : Fin cfg0.W) t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨HS0, Hg⟩, Ho, ⟨%d0, H0⟩, ⟨%d1, H1⟩, ⟨%d2, H2⟩, H3, H4, H5⟩
  iapply (run_held c (grid0.coords t) _ _ _ _ _ _ _ _ _ _ _ _ _ _ (iblk m c 0 t) (iblk m c 1 t) (iblk m c 2 t) Set.univ _)
  unfold held
  isplitr [Hg Ho]
  · isplitl [H0]; · iexact H0
    isplitl [H1]; · iexact H1
    isplitl [H2]; · iexact H2
    isplitl [H3]; · iexact H3
    isplitl [H4]; · iexact H4
    isplitl [H5]; · iexact H5
    iexact HS0
  iintro ⟨H0, H1, H2, H3, H4, H5, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligationLoose (dats m 0 c) (defs₀ (F := F)) Variants.none () Set.univ outs := fun t => by
  rw [bigSep_W0, bigSep_W0, defs₀_row]
  exact triple_restated (sound_body m c t) rfl .rfl fun _ => .rfl

/-! ## The launch -/

set_option backward.isDefEq.respectTransparency.types false in
/-- Every execution of the kernel ends, every input array as the region found it and every semaphore zero. -/
theorem run_main_quiescent : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := body_obligation m) (hshare := fun c => (dats m 0 c).share_full fun _ => rfl)
    (howed := fun _ _ => rfl) (V := V m) (hmain := hmain m Variants.none) (hA := A_eq m) (hΦ := fun _ _ => rfl)

/-- Every execution of the kernel ends, its arguments as they were and every semaphore zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
    ⟨(h.1.arr_in c 1 rfl).trans ((A_eq m c 1).trans (V_main_arg0 m c)),
     (h.1.arr_in c 0 rfl).trans ((A_eq m c 0).trans (V_main_arg1 m c)),
     (h.1.arr_in c 2 rfl).trans ((A_eq m c 2).trans (V_main_arg2 m c))⟩, h.2⟩) (run_main_quiescent m ρ)

end Cert.Kernel.Gen

end
-- ==== Proof.Quant.lean ====
/- The quantiser on extended reals: what both programs compute of one 128-element block of a row. -/
module

public import Idealize.ShloMosaic.Lib.Pointwise

@[expose] public section

noncomputable section

namespace Cert.Quant

open Idealize.ShloMosaic

/-- The largest absolute value of a block of 128 values. -/
def amax (f : Fin 128 → EReal) : EReal :=
  Finset.univ.fold max (Ideal.ofBits .f32 0xFF800000#32) fun l => FloatOps.absf (F := Ideal) (φ := .f32) (f l)

open Classical in
/-- The block's scale: 1 if the largest absolute value is 0, else that value over 127. -/
def scl (f : Fin 128 → EReal) : EReal :=
  if amax f = 0 then 1 else Ideal.div (amax f) (Ideal.ofBits .f32 0x42FE0000#32)

/-- The code of `x` at scale `s`, as a float: `x / s` rounded half to even and clipped to ±127. -/
def code (x s : EReal) : EReal :=
  min (((127#32 : BitVec 32).toInt : ℝ) : EReal)
    (max (((4294967169#32 : BitVec 32).toInt : ℝ) : EReal) (Ideal.liftRound Ideal.roundHalfEven (Ideal.div x s)))

/-- The code as the 8-bit word that is stored. -/
def code8 (x s : EReal) : BitVec 8 := FloatOps.fptosi (F := Ideal) (φ := .f32) 8 (code x s)

/-- The error left after quantising `x` at scale `s`. -/
def left (x s : EReal) : EReal := x - code x s * s

/-- The code is an integer between -127 and 127. -/
theorem code_int (x s : EReal) : ∃ n : ℤ, -127 ≤ n ∧ n ≤ 127 ∧ code x s = ((n : ℝ) : EReal) := by
  have h1 : (127#32 : BitVec 32).toInt = 127 := by decide
  have h2 : (4294967169#32 : BitVec 32).toInt = -127 := by decide
  unfold code
  rw [h1, h2]
  induction Ideal.div x s using EReal.rec with
  | bot =>
    refine ⟨-127, by omega, by omega, ?_⟩
    simp only [Ideal.liftRound_bot]
    rw [max_eq_left bot_le, min_eq_right]
    exact EReal.coe_le_coe_iff.mpr (by norm_num)
  | top =>
    refine ⟨127, by omega, by omega, ?_⟩
    simp only [Ideal.liftRound_top]
    rw [max_eq_right le_top, min_eq_left le_top]
  | coe r =>
    refine ⟨min 127 (max (-127) (Ideal.roundHalfEven r)), by omega, by omega, ?_⟩
    simp only [Ideal.liftRound_coe]
    push_cast
    rw [EReal.coe_strictMono.monotone.map_min, EReal.coe_strictMono.monotone.map_max,
      EReal.coe_neg]

/-- An integer code survives the round trip through the 8-bit word. -/
theorem code_round_trip (x s : EReal) :
    FloatOps.sitofp (F := Ideal) .f32 (FloatOps.fptosi (F := Ideal) (φ := .f32) 8 (code x s)) = code x s := by
  obtain ⟨n, h1, h2, h⟩ := code_int x s
  rw [h]
  show ((((Ideal.fptosi 8 ((n : ℝ) : EReal)).toInt : ℤ) : ℝ) : EReal) = _
  have e : (if (0 : ℝ) ≤ (n : ℝ) then ⌊(n : ℝ)⌋ else ⌈(n : ℝ)⌉) = n := by
    split <;> simp
  rw [Ideal.fptosi, Ideal.toIntClamped_coe, e]
  have e2 : max (-((2 ^ (8 - 1) : ℕ) : ℤ)) (min (((2 ^ (8 - 1) : ℕ) : ℤ) - 1) n) = n := by
    norm_num; omega
  rw [e2, BitVec.toInt_ofInt]
  have e3 : n.bmod (2 ^ 8) = n := by
    rw [Int.bmod_eq_of_le] <;> norm_num <;> omega
  rw [e3]

end Cert.Quant

end
-- ==== Proof.Payload.lean ====
/- What one trip of the kernel's row loop computes, element by element: 32 rows, quantised in 8 blocks of 128. -/
module

public import proofs.«01_k».proof.Proof.Gen.KernelIdeal.Skeleton
public import proofs.«01_k».proof.Proof.Quant

@[expose] public section

set_option maxRecDepth 16384

noncomputable section

namespace Cert.KernelIdeal.Payload

open Idealize.ShloMosaic Idealize.ShloMosaic.TcCoe Cert.KernelIdeal Cert.KernelIdeal.Gen Cert.Quant

/-- Block `b` (128 columns) of row `r` of a tile. -/
def blk (u : FVec Ideal S32x1024 .f32) (r : Fin 32) (b : ℕ) (hb : b < 8) : Fin 128 → EReal :=
  fun l => u (ix2 r ⟨128 * b + l.val, by have := l.isLt; omega⟩)

/-- The scale of block `b` of row `r` of a tile. -/
abbrev bscl (u : FVec Ideal S32x1024 .f32) (r : Fin 32) (b : ℕ) (hb : b < 8) : EReal := scl (blk u r b hb)

/-- The tile that is quantised is the accumulated product plus the carried error. -/
theorem tile_apply (v21 v23 : Vec Ideal S32x1024 .f32) (j : S32x1024.Idx) :
    k0_pay4 (F := Ideal) v21 v23 j = v21 j + v23 j := by
  pointwise [k0_pay4]

/-! ## The scale of each block -/

/-- The scale of block 0. -/
theorem scale0 (v21 v23 : Vec Ideal S32x1024 .f32) (r : Fin 32) :
    k0_pay6 (F := Ideal) v21 v23 (ix2 r 0) = bscl (k0_pay4 v21 v23) r 0 (by omega) := by
  pointwise [k0_pay6, k0_pay5, bscl, scl, amax, blk, k0_pay4]

/-- The scale of block 1. -/
theorem scale1 (v21 v23 : Vec Ideal S32x1024 .f32) (r : Fin 32) :
    k0_pay11 (F := Ideal) v21 v23 (ix2 r 0) = bscl (k0_pay4 v21 v23) r 1 (by omega) := by
  pointwise [k0_pay11, k0_pay10, bscl, scl, amax, blk, k0_pay4]

/-- The scale of block 2. -/
theorem scale2 (v24 : FVec Ideal S32x1024 .f32) (r : Fin 32) :
    k0_pay17 (F := Ideal) v24 (ix2 r 0) = bscl v24 r 2 (by omega) := by
  pointwise [k0_pay17, k0_pay16, bscl, scl, amax, blk, k0_pay4]

/-- The scale of block 3. -/
theorem scale3 (v24 : FVec Ideal S32x1024 .f32) (r : Fin 32) :
    k0_pay22 (F := Ideal) v24 (ix2 r 0) = bscl v24 r 3 (by omega) := by
  pointwise [k0_pay22, k0_pay21, bscl, scl, amax, blk, k0_pay4]

/-- The scale of block 4. -/
theorem scale4 (v24 : FVec Ideal S32x1024 .f32) (r : Fin 32) :
    k0_pay28 (F := Ideal) v24 (ix2 r 0) = bscl v24 r 4 (by omega) := by
  pointwise [k0_pay28, k0_pay27, bscl, scl, amax, blk, k0_pay4]

/-- The scale of block 5. -/
theorem scale5 (v24 : FVec Ideal S32x1024 .f32) (r : Fin 32) :
    k0_pay33 (F := Ideal) v24 (ix2 r 0) = bscl v24 r 5 (by omega) := by
  pointwise [k0_pay33, k0_pay32, bscl, scl, amax, blk, k0_pay4]

/-- The scale of block 6. -/
theorem scale6 (v24 : FVec Ideal S32x1024 .f32) (r : Fin 32) :
    k0_pay40 (F := Ideal) v24 (ix2 r 0) = bscl v24 r 6 (by omega) := by
  pointwise [k0_pay40, k0_pay39, bscl, scl, amax, blk, k0_pay4]

/-- The scale of block 7. -/
theorem scale7 (v24 : FVec Ideal S32x1024 .f32) (r : Fin 32) :
    k0_pay45 (F := Ideal) v24 (ix2 r 0) = bscl v24 r 7 (by omega) := by
  pointwise [k0_pay45, k0_pay44, bscl, scl, amax, blk, k0_pay4]

/-! ## The codes and the errors left of each block -/

/-- The codes of block 0. -/
theorem codes0 (v21 v23 : Vec Ideal S32x1024 .f32) (r : Fin 32) (l : Fin 128) :
    k0_pay8 (F := Ideal) v21 v23 (ix2 r l) = code8 (blk (k0_pay4 v21 v23) r 0 (by omega) l) (bscl (k0_pay4 v21 v23) r 0 (by omega)) := by
  rw [← scale0]
  pointwise [k0_pay8, k0_pay7, k0_pay5, code8, code, blk, k0_pay4]

/-- The errors left of block 0. -/
theorem left0 (v21 v23 : Vec Ideal S32x1024 .f32) (r : Fin 32) (l : Fin 128) :
    k0_pay9 (F := Ideal) v21 v23 (ix2 r l) = left (blk (k0_pay4 v21 v23) r 0 (by omega) l) (bscl (k0_pay4 v21 v23) r 0 (by omega)) := by
  rw [← scale0]
  pointwise [k0_pay9, k0_pay7, k0_pay5, left, code, blk, k0_pay4]

/-- The codes of block 1. -/
theorem codes1 (v21 v23 : Vec Ideal S32x1024 .f32) (r : Fin 32) (l : Fin 128) :
    k0_pay14 (F := Ideal) (k0_pay12 v21 v23) (ix2 r l) = code8 (blk (k0_pay4 v21 v23) r 1 (by omega) l) (bscl (k0_pay4 v21 v23) r 1 (by omega)) := by
  rw [← scale1]
  pointwise [k0_pay14, k0_pay13, k0_pay12, k0_pay10, code8, code, blk, k0_pay4]

/-- The errors left of block 1. -/
theorem left1 (v21 v23 : Vec Ideal S32x1024 .f32) (r : Fin 32) (l : Fin 128) :
    k0_pay15 (F := Ideal) (k0_pay10 v21 v23) (k0_pay11 v21 v23) (k0_pay12 v21 v23) (ix2 r l) = left (blk (k0_pay4 v21 v23) r 1 (by omega) l) (bscl (k0_pay4 v21 v23) r 1 (by omega)) := by
  rw [← scale1]
  pointwise [k0_pay15, k0_pay13, k0_pay12, k0_pay10, left, code, blk, k0_pay4]

/-- The codes of block 2. -/
theorem codes2 (v24 : FVec Ideal S32x1024 .f32) (r : Fin 32) (l : Fin 128) :
    k0_pay19 (F := Ideal) v24 (ix2 r l) = code8 (blk v24 r 2 (by omega) l) (bscl v24 r 2 (by omega)) := by
  rw [← scale2]
  pointwise [k0_pay19, k0_pay18, k0_pay16, code8, code, blk, k0_pay4]

/-- The errors left of block 2. -/
theorem left2 (v24 : FVec Ideal S32x1024 .f32) (r : Fin 32) (l : Fin 128) :
    k0_pay20 (F := Ideal) v24 (ix2 r l) = left (blk v24 r 2 (by omega) l) (bscl v24 r 2 (by omega)) := by
  rw [← scale2]
  pointwise [k0_pay20, k0_pay18, k0_pay16, left, code, blk, k0_pay4]

/-- The codes of block 3. -/
theorem codes3 (v24 : FVec Ideal S32x1024 .f32) (r : Fin 32) (l : Fin 128) :
    k0_pay25 (F := Ideal) (k0_pay23 v24) 4294967169#32 (ix2 r l) = code8 (blk v24 r 3 (by omega) l) (bscl v24 r 3 (by omega)) := by
  rw [← scale3]
  pointwise [k0_pay25, k0_pay24, k0_pay23, k0_pay21, code8, code, blk, k0_pay4]

/-- The errors left of block 3. -/
theorem left3 (v24 : FVec Ideal S32x1024 .f32) (r : Fin 32) (l : Fin 128) :
    k0_pay26 (F := Ideal) (k0_pay21 v24) (k0_pay22 v24) (k0_pay23 v24) 4294967169#32 (ix2 r l) = left (blk v24 r 3 (by omega) l) (bscl v24 r 3 (by omega)) := by
  rw [← scale3]
  pointwise [k0_pay26, k0_pay24, k0_pay23, k0_pay21, left, code, blk, k0_pay4]

/-- The codes of block 4. -/
theorem codes4 (v24 : FVec Ideal S32x1024 .f32) (r : Fin 32) (l : Fin 128) :
    k0_pay30 (F := Ideal) v24 (ix2 r l) = code8 (blk v24 r 4 (by omega) l) (bscl v24 r 4 (by omega)) := by
  rw [← scale4]
  pointwise [k0_pay30, k0_pay29, k0_pay27, code8, code, blk, k0_pay4]

/-- The errors left of block 4. -/
theorem left4 (v24 : FVec Ideal S32x1024 .f32) (r : Fin 32) (l : Fin 128) :
    k0_pay31 (F := Ideal) v24 (ix2 r l) = left (blk v24 r 4 (by omega) l) (bscl v24 r 4 (by omega)) := by
  rw [← scale4]
  pointwise [k0_pay31, k0_pay29, k0_pay27, left, code, blk, k0_pay4]

/-- The codes of block 5. -/
theorem codes5 (v24 : FVec Ideal S32x1024 .f32) (r : Fin 32) (l : Fin 128) :
    k0_pay37 (F := Ideal) (k0_pay34 v24) 127#32 (k0_pay35 (F := Ideal)) (ix2 r l) = code8 (blk v24 r 5 (by omega) l) (bscl v24 r 5 (by omega)) := by
  rw [← scale5]
  pointwise [k0_pay37, k0_pay36, k0_pay34, k0_pay35, k0_pay32, code8, code, blk, k0_pay4]

/-- The errors left of block 5. -/
theorem left5 (v24 : FVec Ideal S32x1024 .f32) (r : Fin 32) (l : Fin 128) :
    k0_pay38 (F := Ideal) (k0_pay32 v24) (k0_pay33 v24) (k0_pay34 v24) 127#32 (k0_pay35 (F := Ideal)) (ix2 r l) = left (blk v24 r 5 (by omega) l) (bscl v24 r 5 (by omega)) := by
  rw [← scale5]
  pointwise [k0_pay38, k0_pay36, k0_pay34, k0_pay35, k0_pay32, left, code, blk, k0_pay4]

/-- The codes of block 6. -/
theorem codes6 (v24 : FVec Ideal S32x1024 .f32) (r : Fin 32) (l : Fin 128) :
    k0_pay42 (F := Ideal) v24 (ix2 r l) = code8 (blk v24 r 6 (by omega) l) (bscl v24 r 6 (by omega)) := by
  rw [← scale6]
  pointwise [k0_pay42, k0_pay41, k0_pay39, code8, code, blk, k0_pay4]

/-- The errors left of block 6. -/
theorem left6 (v24 : FVec Ideal S32x1024 .f32) (r : Fin 32) (l : Fin 128) :
    k0_pay43 (F := Ideal) v24 (ix2 r l) = left (blk v24 r 6 (by omega) l) (bscl v24 r 6 (by omega)) := by
  rw [← scale6]
  pointwise [k0_pay43, k0_pay41, k0_pay39, left, code, blk, k0_pay4]

end Cert.KernelIdeal.Payload

end
-- ==== Proof.Trip.lean ====
/- What one trip of the kernel's row loop stores into its three output blocks, element by element. -/
module

public import proofs.«01_k».proof.Proof.Payload

@[expose] public section

set_option maxRecDepth 16384

noncomputable section

namespace Cert.KernelIdeal.Payload

open Idealize.ShloMosaic Idealize.ShloMosaic.TcCoe Cert.KernelIdeal Cert.KernelIdeal.Gen Cert.Quant

/-- The block a column lies in. -/
theorem col_lt (c : Fin 1024) : c.val / 128 < 8 := by have := c.isLt; omega

/-- A value of block `b`, with that block's scale, named by its column instead. -/
theorem by_col {α : Type} (g : EReal → EReal → α) (u : FVec Ideal S32x1024 .f32) (r : Fin 32) (b : ℕ) (hb : b < 8)
    (l : Fin 128) (c : Fin 1024) (h : c.val = 128 * b + l.val) :
    g (blk u r b hb l) (bscl u r b hb) = g (u (ix2 r c)) (bscl u r (c.val / 128) (col_lt c)) := by
  have hl := l.isLt
  have hc : c.val / 128 = b := by omega
  subst hc
  have e : blk u r (c.val / 128) hb l = u (ix2 r c) := by
    unfold blk
    exact congrArg (fun k => u (ix2 r k)) (Fin.ext h.symm)
  rw [e]

/-- The codes a trip stores: each element's code at its block's scale. -/
theorem codes_trip (v21 v23 : Vec Ideal S32x1024 .f32) (r : Fin 32) (c : Fin 1024) :
    k0_pay48 (F := Ideal) (k0_pay8 v21 v23) (k0_pay14 (k0_pay12 v21 v23)) (k0_pay19 (k0_pay4 v21 v23))
      (k0_pay25 (k0_pay23 (k0_pay4 v21 v23)) 4294967169#32) (k0_pay30 (k0_pay4 v21 v23))
      (k0_pay37 (k0_pay34 (k0_pay4 v21 v23)) 127#32 (k0_pay35 (F := Ideal))) (k0_pay42 (k0_pay4 v21 v23)) 127#32
      (k0_pay46 (k0_pay4 v21 v23)) (ix2 r c)
      = code8 (k0_pay4 (F := Ideal) v21 v23 (ix2 r c)) (bscl (k0_pay4 (F := Ideal) v21 v23) r (c.val / 128) (col_lt c)) := by
  have hc := c.isLt
  have h7 : ∀ l : Fin 128, FloatOps.fptosi (F := Ideal) (φ := .f32) 8 (min (((127#32 : BitVec 32).toInt : ℝ) : EReal)
      (k0_pay46 (F := Ideal) (k0_pay4 v21 v23) (ix2 r l)))
      = code8 (blk (k0_pay4 v21 v23) r 7 (by omega) l) (bscl (k0_pay4 v21 v23) r 7 (by omega)) := by
    intro l
    rw [← scale7]
    pointwise [k0_pay46, k0_pay44, code8, code, blk]
  pointwise [k0_pay48, k0_pay47]
  split
  · rw [codes0]; exact by_col code8 _ r _ _ _ c (by simp only; omega)
  split
  · rw [codes1]; exact by_col code8 _ r _ _ _ c (by simp only; omega)
  split
  · rw [codes2]; exact by_col code8 _ r _ _ _ c (by simp only; omega)
  split
  · rw [codes3]; exact by_col code8 _ r _ _ _ c (by simp only; omega)
  split
  · rw [codes4]; exact by_col code8 _ r _ _ _ c (by simp only; omega)
  split
  · rw [codes5]; exact by_col code8 _ r _ _ _ c (by simp only; omega)
  split
  · rw [codes6]; exact by_col code8 _ r _ _ _ c (by simp only; omega)
  · rw [h7]; exact by_col code8 _ r _ _ _ c (by simp only; omega)

/-- The errors a trip stores: each element less its code times its block's scale. -/
theorem left_trip (v21 v23 : Vec Ideal S32x1024 .f32) (r : Fin 32) (c : Fin 1024) :
    k0_pay49 (F := Ideal) (k0_pay9 v21 v23) (k0_pay15 (k0_pay10 v21 v23) (k0_pay11 v21 v23) (k0_pay12 v21 v23))
      (k0_pay20 (k0_pay4 v21 v23))
      (k0_pay26 (k0_pay21 (k0_pay4 v21 v23)) (k0_pay22 (k0_pay4 v21 v23)) (k0_pay23 (k0_pay4 v21 v23)) 4294967169#32)
      (k0_pay31 (k0_pay4 v21 v23))
      (k0_pay38 (k0_pay32 (k0_pay4 v21 v23)) (k0_pay33 (k0_pay4 v21 v23)) (k0_pay34 (k0_pay4 v21 v23)) 127#32 (k0_pay35 (F := Ideal)))
      (k0_pay43 (k0_pay4 v21 v23)) (k0_pay44 (k0_pay4 v21 v23)) (k0_pay45 (k0_pay4 v21 v23)) 127#32
      (k0_pay46 (k0_pay4 v21 v23)) (ix2 r c)
      = left (k0_pay4 (F := Ideal) v21 v23 (ix2 r c)) (bscl (k0_pay4 (F := Ideal) v21 v23) r (c.val / 128) (col_lt c)) := by
  have hc := c.isLt
  have h7 : ∀ l : Fin 128, k0_pay44 (F := Ideal) (k0_pay4 v21 v23) (ix2 r l) - min (((127#32 : BitVec 32).toInt : ℝ) : EReal)
      (k0_pay46 (F := Ideal) (k0_pay4 v21 v23) (ix2 r l)) * k0_pay45 (F := Ideal) (k0_pay4 v21 v23) (ix2 r 0)
      = left (blk (k0_pay4 v21 v23) r 7 (by omega) l) (bscl (k0_pay4 v21 v23) r 7 (by omega)) := by
    intro l
    rw [← scale7]
    pointwise [k0_pay46, k0_pay44, left, code, blk]
  pointwise [k0_pay49, k0_pay47]
  split
  · rw [left0]; exact by_col left _ r _ _ _ c (by simp only; omega)
  split
  · rw [left1]; exact by_col left _ r _ _ _ c (by simp only; omega)
  split
  · rw [left2]; exact by_col left _ r _ _ _ c (by simp only; omega)
  split
  · rw [left3]; exact by_col left _ r _ _ _ c (by simp only; omega)
  split
  · rw [left4]; exact by_col left _ r _ _ _ c (by simp only; omega)
  split
  · rw [left5]; exact by_col left _ r _ _ _ c (by simp only; omega)
  split
  · rw [left6]; exact by_col left _ r _ _ _ c (by simp only; omega)
  · rw [h7]; exact by_col left _ r _ _ _ c (by simp only; omega)

/-- The lane mask of block `b` at column tile `j`: it selects lane `8 j + b`. -/
theorem lane (l j b : ℕ) (hl : l < 64) (hj : j < 8) (hb : b < 8) (x y : EReal) :
    Scalar.select (IntOp.cmpi .eq (BitVec.ofNat 32 l) (Scalar.addi (Scalar.muli (BitVec.ofNat 32 j) 8#32) (BitVec.ofNat 32 b))) x y
      = if l = 8 * j + b then x else y := by
  have e : Scalar.addi (Scalar.muli (BitVec.ofNat 32 j) 8#32) (BitVec.ofNat 32 b) = BitVec.ofNat 32 (8 * j + b) := by
    show BitVec.ofNat 32 j * 8#32 + BitVec.ofNat 32 b = _
    apply BitVec.eq_of_toNat_eq
    simp only [BitVec.toNat_add, BitVec.toNat_mul, BitVec.toNat_ofNat]
    omega
  rw [e]
  by_cases h : l = 8 * j + b
  · subst h
    rw [if_pos rfl]
    simp [Scalar.select, IntOp.cmpi]
  · rw [if_neg h]
    have hn : BitVec.ofNat 32 l ≠ BitVec.ofNat 32 (8 * j + b) := fun h' => h (by
      have := congrArg BitVec.toNat h'
      simp only [BitVec.toNat_ofNat] at this
      omega)
    simp only [Scalar.select, IntOp.cmpi, beq_eq_false_iff_ne.mpr hn]
    rfl

/-- The mask of the first column tile. -/
theorem first (j : ℕ) (hj : j < 8) (x y : EReal) :
    Scalar.select (Scalar.cmpi .eq (BitVec.ofNat 32 j) 0#32) x y = if j = 0 then x else y := by
  by_cases h : j = 0
  · subst h
    rw [if_pos rfl]
    simp [Scalar.select, Scalar.cmpi, IntOp.cmpi]
  · rw [if_neg h]
    have hn : BitVec.ofNat 32 j ≠ 0#32 := fun h' => h (by
      have := congrArg BitVec.toNat h'
      simp only [BitVec.toNat_ofNat] at this
      omega)
    simp only [Scalar.select, Scalar.cmpi, IntOp.cmpi, beq_eq_false_iff_ne.mpr hn]
    rfl

/-- The scales a trip stores: the eight lanes of this column tile get their blocks' scales, the others are 0 at the
    first column tile and unchanged at a later one. -/
theorem scales_trip (i : grid0.Coords) (v21 v23 : Vec Ideal S32x1024 .f32) (old : Vec Ideal S32x64 .f32) (r : Fin 32) (l : Fin 64) :
    k0_pay3 (F := Ideal) i (k0_pay28 (k0_pay4 v21 v23)) (k0_pay33 (k0_pay4 v21 v23)) (k0_pay40 (k0_pay4 v21 v23)) (k0_pay45 (k0_pay4 v21 v23))
      (k0_pay50 (BitVec.ofNat 32 (i 1).val) (iota .tc S32x64 32 [1] iota_S32x64_d1_w32) (k0_pay6 v21 v23) (k0_pay11 v21 v23) (k0_pay17 (k0_pay4 v21 v23)) old)
      (k0_pay51 (BitVec.ofNat 32 (i 1).val) (iota .tc S32x64 32 [1] iota_S32x64_d1_w32)) (k0_pay52 (k0_pay22 (k0_pay4 v21 v23))) (ix2 r l)
      = if h : 8 * (i 1).val ≤ l.val ∧ l.val < 8 * (i 1).val + 8 then bscl (k0_pay4 (F := Ideal) v21 v23) r (l.val - 8 * (i 1).val) (by omega)
        else if (i 1).val = 0 then 0 else old (ix2 r l) := by
  have hj : (i 1).val < 8 := (i 1).isLt
  have hl := l.isLt
  pointwise [k0_pay3, k0_pay50, k0_pay51, k0_pay52]
  rw [scale0, scale1, scale2, scale3, scale4, scale5, scale6, scale7]
  rw [lane l.val (i 1).val 7 hl hj (by omega), lane l.val (i 1).val 6 hl hj (by omega), lane l.val (i 1).val 5 hl hj (by omega),
    lane l.val (i 1).val 4 hl hj (by omega), lane l.val (i 1).val 3 hl hj (by omega), lane l.val (i 1).val 2 hl hj (by omega),
    lane l.val (i 1).val 1 hl hj (by omega), lane l.val (i 1).val 0 hl hj (by omega), first (i 1).val hj]
  by_cases h : 8 * (i 1).val ≤ l.val ∧ l.val < 8 * (i 1).val + 8
  · rw [dif_pos h]
    have hb : ∀ (b : ℕ) (hb : b < 8), l.val = 8 * (i 1).val + b →
        bscl (k0_pay4 (F := Ideal) v21 v23) r b hb = bscl (k0_pay4 (F := Ideal) v21 v23) r (l.val - 8 * (i 1).val) (by omega) := by
      intro b hb e
      have e' : l.val - 8 * (i 1).val = b := by omega
      subst e'; rfl
    split
    · exact hb _ _ (by omega)
    split
    · exact hb _ _ (by omega)
    split
    · exact hb _ _ (by omega)
    split
    · exact hb _ _ (by omega)
    split
    · exact hb _ _ (by omega)
    split
    · exact hb _ _ (by omega)
    split
    · exact hb _ _ (by omega)
    split
    · exact hb _ _ (by omega)
    · omega
  · rw [dif_neg h, if_neg (by omega), if_neg (by omega), if_neg (by omega), if_neg (by omega), if_neg (by omega),
      if_neg (by omega), if_neg (by omega), if_neg (by omega)]

end Cert.KernelIdeal.Payload

end
-- ==== Proof.Tile.lean ====
/- What the last grid point of a column of points leaves in its three output blocks, as functions of the tile it quantises. -/
module

public import proofs.«01_k».proof.Proof.Trip

@[expose] public section

set_option maxRecDepth 16384

noncomputable section

namespace Cert.KernelIdeal.Tile

open Idealize.ShloMosaic Idealize.ShloMosaic.TcCoe Cert.KernelIdeal Cert.KernelIdeal.Gen Cert.KernelIdeal.Payload Cert.Quant

/-- The scale of block `b` (128 columns) of row `r` of a tile. -/
def tscl (v : FVec Ideal S1024x1024 .f32) (r : Fin 1024) (b : ℕ) (hb : b < 8) : EReal :=
  scl fun l : Fin 128 => v (ix2 r ⟨128 * b + l.val, by have := l.isLt; omega⟩)

/-- The codes of a tile: each element's code at its block's scale. -/
def T6 (v : FVec Ideal S1024x1024 .f32) : Vec Ideal S1024x1024 .i8 := fun y =>
  code8 (v y) (tscl v (y 0) ((y 1).val / 128) (col_lt (y 1)))

/-- The residue of a tile: each element less what its code stands for. -/
def T8 (v : FVec Ideal S1024x1024 .f32) : Vec Ideal S1024x1024 .f32 := fun y =>
  left (v y) (tscl v (y 0) ((y 1).val / 128) (col_lt (y 1)))

/-- The scales a tile leaves: columns `8 j` to `8 j + 7` take the tile's, the others keep what they held, which the first
tile of a row clears. -/
def T7 (j : ℕ) (v : FVec Ideal S1024x1024 .f32) (old : Vec Ideal S1024x64 .f32) : Vec Ideal S1024x64 .f32 := fun y =>
  if h : 8 * j ≤ (y 1).val ∧ (y 1).val < 8 * j + 8 then tscl v (y 0) ((y 1).val - 8 * j) (by omega)
  else if j = 0 then 0 else old y

/-- A block of 32 rows of a tile has those rows' scales. -/
theorem bscl_rows (v : FVec Ideal S1024x1024 .f32) (u : FVec Ideal S32x1024 .f32) (o : ℕ) (r : Fin 32) (R : Fin 1024)
    (hR : R.val = o + r.val) (hu : ∀ (r : Fin 32) (R : Fin 1024) (c : Fin 1024), R.val = o + r.val → u (ix2 r c) = v (ix2 R c))
    (b : ℕ) (hb : b < 8) : bscl u r b hb = tscl v R b hb := by
  unfold tscl bscl
  congr 1
  funext l
  exact hu r R _ hR

end Cert.KernelIdeal.Tile

end
-- ==== Proof.KLoop.lean ====
/- The kernel's row loop: before trip `k` the first `32 k` rows of the output blocks hold the tile's results. -/
module

public import proofs.«01_k».proof.Proof.Gen.KernelIdeal.Loops
public import proofs.«01_k».proof.Proof.Tile
public import Idealize.ShloMosaic.Lib.WritesUnit

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Payload Cert.KernelIdeal.Tile Cert.Quant

/-- The tile that is quantised: what the accumulator holds plus the carried error. -/
def tileOf (arg5 arg9 : Memref sig .tc .vmem S1024x1024 .f32) (X5 : BufTy.Contents (Elt Ideal) arg5.view.ty)
    (X9 : BufTy.Contents (Elt Ideal) arg9.view.ty) : FVec Ideal S1024x1024 .f32 :=
  fun y => arg9.view.read (Elt Ideal) X9 y + arg5.view.read (Elt Ideal) X5 y

/-- What is known before trip `k`: the rows of the earlier trips hold the tile's results. -/
abbrev rowsInv (c : Dev nD) (j : ℕ) (arg5 : Memref sig .tc .vmem S1024x1024 .f32) (arg6 : Memref sig .tc .vmem S1024x1024 .i8)
    (arg7 : Memref sig .tc .vmem S1024x64 .f32) (arg8 arg9 : Memref sig .tc .vmem S1024x1024 .f32)
    (X5 : BufTy.Contents (Elt Ideal) arg5.view.ty) (X9 : BufTy.Contents (Elt Ideal) arg9.view.ty)
    (v : FVec Ideal S1024x1024 .f32) (old : Vec Ideal S1024x64 .f32) (k : ℕ) (_u : PUnit) :
    sProp (MT nD τ sig Unit (Elt Ideal) ℕ (UR sig nD τ) ℕ) :=
  iprop((arg5.view.loc (c : Thread nD τ) ↦[arg5.view.set]{fullShare} X5)
    ∗ (arg9.view.loc (c : Thread nD τ) ↦[arg9.view.set]{fullShare} X9)
    ∗ (∃ f, (arg6.view.loc (c : Thread nD τ) ↦[arg6.view.set]{fullShare} f)
        ∗ ⌜∀ (r : Fin 1024) (c : Fin 1024), r.val < 32 * k → arg6.view.read (Elt Ideal) f (ix2 r c) = T6 v (ix2 r c)⌝)
    ∗ (∃ f, (arg7.view.loc (c : Thread nD τ) ↦[arg7.view.set]{fullShare} f)
        ∗ ⌜∀ (r : Fin 1024) (l : Fin 64), arg7.view.read (Elt Ideal) f (ix2 r l)
            = if r.val < 32 * k then T7 j v old (ix2 r l) else old (ix2 r l)⌝)
    ∗ (∃ f, (arg8.view.loc (c : Thread nD τ) ↦[arg8.view.set]{fullShare} f)
        ∗ ⌜∀ (r : Fin 1024) (c : Fin 1024), r.val < 32 * k → arg8.view.read (Elt Ideal) f (ix2 r c) = T8 v (ix2 r c)⌝))

/-- The rows a trip loads of a block are the block's rows from `32 k` on. -/
theorem rows_ld (arg : Memref sig .tc .vmem S1024x1024 .f32) (X : BufTy.Contents (Elt Ideal) arg.view.ty) (k : Fin k0_t1_loop.trips)
    (inb : ∀ a, k0_off1 k a + S32x1024.size a ≤ S1024x1024.size a) (r : Fin 32) (R : Fin 1024) (c : Fin 1024) (hR : R.val = 32 * k.val + r.val) :
    arg.view.readAt (Elt Ideal) (Rect.unit (s := S1024x1024) (k0_off1 k) S32x1024.size inb).toLoadRect X (ix2 r c)
      = arg.view.read (Elt Ideal) X (ix2 R c) := by
  rw [View.readAt_apply]
  refine congrArg (arg.view.read (Elt Ideal) X) (funext fun a => Fin.ext ?_)
  show k0_off1 k a + 1 * (ix2 r c a).val = (ix2 R c a).val
  rw [k0_off1_eq k]
  match a with
  | 0 => show 32 * k.val + 1 * r.val = R.val; omega
  | 1 => show 0 + 1 * c.val = c.val; omega

/-- The same for the block of scales. -/
theorem rows_ld7 (arg : Memref sig .tc .vmem S1024x64 .f32) (X : BufTy.Contents (Elt Ideal) arg.view.ty) (k : Fin k0_t1_loop.trips)
    (inb : ∀ a, k0_off2 k a + S32x64.size a ≤ S1024x64.size a) (r : Fin 32) (R : Fin 1024) (l : Fin 64) (hR : R.val = 32 * k.val + r.val) :
    arg.view.readAt (Elt Ideal) (Rect.unit (s := S1024x64) (k0_off2 k) S32x64.size inb).toLoadRect X (ix2 r l)
      = arg.view.read (Elt Ideal) X (ix2 R l) := by
  rw [View.readAt_apply]
  refine congrArg (arg.view.read (Elt Ideal) X) (funext fun a => Fin.ext ?_)
  show k0_off2 k a + 1 * (ix2 r l a).val = (ix2 R l a).val
  rw [k0_off2_eq k]
  match a with
  | 0 => show 32 * k.val + 1 * r.val = R.val; omega
  | 1 => show 0 + 1 * l.val = l.val; omega

/-- The tile of a trip is the whole tile's rows from `32 k` on. -/
theorem tile_rows (arg5 arg9 : Memref sig .tc .vmem S1024x1024 .f32) (X5 : BufTy.Contents (Elt Ideal) arg5.view.ty)
    (X9 : BufTy.Contents (Elt Ideal) arg9.view.ty) (k : Fin k0_t1_loop.trips)
    (inb : ∀ a, k0_off1 k a + S32x1024.size a ≤ S1024x1024.size a) (r : Fin 32) (R : Fin 1024) (c : Fin 1024) (hR : R.val = 32 * k.val + r.val) :
    k0_pay4 (F := Ideal) (arg9.view.readAt (Elt Ideal) (Rect.unit (s := S1024x1024) (k0_off1 k) S32x1024.size inb).toLoadRect X9)
      (arg5.view.readAt (Elt Ideal) (Rect.unit (s := S1024x1024) (k0_off1 k) S32x1024.size inb).toLoadRect X5) (ix2 r c)
      = tileOf arg5 arg9 X5 X9 (ix2 R c) := by
  rw [tile_apply, rows_ld arg9 X9 k inb r R c hR, rows_ld arg5 X5 k inb r R c hR]
  rfl

/-- One trip writes its 32 rows. -/
theorem rows_trip (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (k0_h2 : k0_cond2 i = 1#1)
    (X5 : BufTy.Contents (Elt Ideal) arg5.view.ty) (X9 : BufTy.Contents (Elt Ideal) arg9.view.ty) (old : Vec Ideal S1024x64 .f32) (k : Fin k0_t1_loop.trips) (E : Set ℕ) :
      rowsInv c (i 1).val arg5 arg6 arg7 arg8 arg9 X5 X9 (tileOf arg5 arg9 X5 X9) old k.val ()
      ⊢ wp frame (wpE (defs₀ (F := Ideal)) Variants.none (c : Thread nD τ) none) E (k0_t1_body (F := Ideal) i arg3 harg3 arg4 harg4 arg5 harg5 arg6 harg6 arg7 harg7 arg8 harg8 arg9 harg9 (BitVec.ofNat 32 (i 1).val) k0_h2 (iota .tc S32x64 32 [1] iota_S32x64_d1_w32) k PUnit.unit)
          (fun _ => rowsInv c (i 1).val arg5 arg6 arg7 arg8 arg9 X5 X9 (tileOf arg5 arg9 X5 X9) old (k.val + 1) ()) := by
  have hk : k.val < 32 := Nat.lt_of_lt_of_le k.isLt k0_t1_abs.2.1
  have htile := tile_rows arg5 arg9 X5 X9 k (k0_off1_inb i k k0_h2)
  unfold k0_t1_body
  iintro ⟨H5, H9, ⟨%f6, H6, %h6⟩, ⟨%f7, H7, %h7⟩, ⟨%f8, H8, %h8⟩⟩
  sl_exec
  sl_step
  isplitl [H5]; · iexact H5
  isplitl [H9]; · iexact H9
  isplitl [H6]
  · iexists _
    isplitl [H6]; · iexact H6
    ipureintro
    intro r cc hr
    by_cases h : r.val < 32 * k.val
    · refine (View.read_writes_cons_rows_of_not_mem arg6.view _ _ _ _ _ (k0_off1_eq k) rfl (.inl h)).trans ?_
      exact h6 r cc h
    · obtain ⟨r', hr'⟩ : ∃ r' : Fin 32, r.val = 32 * k.val + r'.val := ⟨⟨r.val - 32 * k.val, by omega⟩, by simp only; omega⟩
      refine (View.read_writes_cons_rows_of_mem arg6.view _ _ _ _ _ (ix2 r' cc) (k0_off1_eq k) hr' rfl).trans ?_
      refine (codes_trip (arg9.view.readAt (Elt Ideal) (Rect.unit (s := S1024x1024) (k0_off1 k) S32x1024.size (k0_off1_inb i k k0_h2)).toLoadRect X9)
        (arg5.view.readAt (Elt Ideal) (Rect.unit (s := S1024x1024) (k0_off1 k) S32x1024.size (k0_off1_inb i k k0_h2)).toLoadRect X5) r' cc).trans ?_
      rw [bscl_rows _ _ _ r' r hr' htile, htile r' r cc hr']
      rfl
  isplitl [H7]
  · iexists _
    isplitl [H7]; · iexact H7
    ipureintro
    intro r l
    by_cases h : 32 * k.val ≤ r.val ∧ r.val < 32 * k.val + 32
    · obtain ⟨r', hr'⟩ : ∃ r' : Fin 32, r.val = 32 * k.val + r'.val := ⟨⟨r.val - 32 * k.val, by omega⟩, by simp only; omega⟩
      refine (View.read_writes_cons_rows_of_mem arg7.view _ _ _ _ _ (ix2 r' l) (k0_off2_eq k) hr' rfl).trans ?_
      refine (scales_trip i (arg9.view.readAt (Elt Ideal) (Rect.unit (s := S1024x1024) (k0_off1 k) S32x1024.size (k0_off1_inb i k k0_h2)).toLoadRect X9)
        (arg5.view.readAt (Elt Ideal) (Rect.unit (s := S1024x1024) (k0_off1 k) S32x1024.size (k0_off1_inb i k k0_h2)).toLoadRect X5)
        (arg7.view.readAt (Elt Ideal) (Rect.unit (s := S1024x64) (k0_off2 k) S32x64.size (k0_off2_inb i k k0_h2)).toLoadRect f7) r' l).trans ?_
      rw [if_pos (show r.val < 32 * (k.val + 1) by omega)]
      unfold T7
      refine dite_congr rfl (fun h' => bscl_rows _ _ _ r' r hr' htile _ _) (fun h' => ?_)
      refine if_congr Iff.rfl rfl ?_
      rw [rows_ld7 arg7 f7 k _ r' r l hr', h7 r l, if_neg (by omega)]
    · refine (View.read_writes_cons_rows_of_not_mem arg7.view _ _ _ _ _ (k0_off2_eq k) (W := 32) rfl (by show r.val < _ ∨ _ ≤ r.val; omega)).trans ?_
      refine (h7 r l).trans ?_
      split <;> split <;> first | rfl | omega
  · iexists _
    isplitl [H8]; · iexact H8
    ipureintro
    intro r cc hr
    by_cases h : r.val < 32 * k.val
    · refine (View.read_writes_cons_rows_of_not_mem arg8.view _ _ _ _ _ (k0_off1_eq k) rfl (.inl h)).trans ?_
      exact h8 r cc h
    · obtain ⟨r', hr'⟩ : ∃ r' : Fin 32, r.val = 32 * k.val + r'.val := ⟨⟨r.val - 32 * k.val, by omega⟩, by simp only; omega⟩
      refine (View.read_writes_cons_rows_of_mem arg8.view _ _ _ _ _ (ix2 r' cc) (k0_off1_eq k) hr' rfl).trans ?_
      refine (left_trip (arg9.view.readAt (Elt Ideal) (Rect.unit (s := S1024x1024) (k0_off1 k) S32x1024.size (k0_off1_inb i k k0_h2)).toLoadRect X9)
        (arg5.view.readAt (Elt Ideal) (Rect.unit (s := S1024x1024) (k0_off1 k) S32x1024.size (k0_off1_inb i k k0_h2)).toLoadRect X5) r' cc).trans ?_
      rw [bscl_rows _ _ _ r' r hr' htile, htile r' r cc hr']
      rfl

set_option warn.classDefReducibility false in
/-- The row loop by its invariant. -/
def rowsLoop (c : Dev nD) (E : Set ℕ) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (k0_h2 : k0_cond2 i = 1#1)
    (X5 : BufTy.Contents (Elt Ideal) arg5.view.ty) (X9 : BufTy.Contents (Elt Ideal) arg9.view.ty) (old : Vec Ideal S1024x64 .f32) :
    LoopInvTy_k0_t1 (F := Ideal) Unit ℕ (UR sig nD τ) ℕ Variants.none c none E i arg3 harg3 arg4 harg4 arg5 harg5 arg6 harg6 arg7 harg7 arg8 harg8 arg9 harg9 (BitVec.ofNat 32 (i 1).val) k0_h2 (iota .tc S32x64 32 [1] iota_S32x64_d1_w32) where
  inv := rowsInv c (i 1).val arg5 arg6 arg7 arg8 arg9 X5 X9 (tileOf arg5 arg9 X5 X9) old
  step k _ := rows_trip c i arg3 harg3 arg4 harg4 arg5 harg5 arg6 harg6 arg7 harg7 arg8 harg8 arg9 harg9 k0_h2 X5 X9 old k E

end Cert.KernelIdeal.Gen

end
-- ==== Proof.KBody.lean ====
/- What one grid point's run leaves: the accumulator always, the three output blocks at the last point of 24. -/
module

public import proofs.«01_k».proof.Proof.Gen.KernelIdeal.Launch
public import proofs.«01_k».proof.Proof.Gen.KernelIdeal.Points
public import proofs.«01_k».proof.Proof.KLoop
public import Idealize.ShloMosaic.Lib.Pipeline.FrameBody
public import Idealize.ShloMosaic.Lib.Ring
public import Idealize.ShloMosaic.Lib.WordCmp
public import Idealize.ShloMosaic.Lib.VecWindow

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Payload Cert.KernelIdeal.Tile Cert.Quant

local notation "𝕄" => MT nD τ sig Unit (Elt Ideal) ℕ (UR sig nD τ) ℕ

/-! ## The body's branch conditions -/

/-- The condition of the body's first branch, from the grid coordinates. -/
abbrev cond0_0 (i : grid0.Coords) : Prop := (Scalar.cmpi .ne (Scalar.extui (Scalar.cmpi .eq (BitVec.ofNat 32 (i 2).val) 0#32)) 0#32) = 1#1
/-- It holds at the points that are 0 modulo 24. -/
theorem hcond0_0 : ∀ t : Fin cfg0.N, cond0_0 (grid0.coords t) ↔ t.val % 24 = 0 :=
  (fun t => by
    have ht : t.val < 1536 := Nat.lt_of_lt_of_eq t.isLt N_0
    have e0 : (grid0.coords t 0).val = t.val / 192 % 8 := Pipeline.Grid.coords_val t 0 (by decide) rfl
    have e1 : (grid0.coords t 1).val = t.val / 24 % 8 := Pipeline.Grid.coords_val t 1 (by decide) rfl
    have e2 : (grid0.coords t 2).val = t.val / 1 % 24 := Pipeline.Grid.coords_val t 2 (by decide) rfl
    simp only [cond0_0, e0, e1, e2]
    word_cmp
   : ∀ t : Fin grid0.N, cond0_0 (grid0.coords t) ↔ t.val % 24 = 0)

/-- The condition of the body's second branch, from the grid coordinates. -/
abbrev cond0_1 (i : grid0.Coords) : Prop := k0_cond2 i = 1#1
/-- It holds at the points that are 23 modulo 24. -/
theorem hcond0_1 : ∀ t : Fin cfg0.N, cond0_1 (grid0.coords t) ↔ t.val % 24 = 23 :=
  (fun t => by
    have ht : t.val < 1536 := Nat.lt_of_lt_of_eq t.isLt N_0
    have e0 : (grid0.coords t 0).val = t.val / 192 % 8 := Pipeline.Grid.coords_val t 0 (by decide) rfl
    have e1 : (grid0.coords t 1).val = t.val / 24 % 8 := Pipeline.Grid.coords_val t 1 (by decide) rfl
    have e2 : (grid0.coords t 2).val = t.val / 1 % 24 := Pipeline.Grid.coords_val t 2 (by decide) rfl
    simp only [cond0_1, k0_cond2, e0, e1, e2]
    word_cmp
   : ∀ t : Fin grid0.N, cond0_1 (grid0.coords t) ↔ t.val % 24 = 23)

/-! ## The runs -/

/-- After a store of a whole block its contents are the stored ones. -/
theorem read_whole {e : EltTy} (v : View sig .tc .vmem S1024x1024 e) (f : v.ty.Contents (Elt Ideal))
    (inb : ∀ a, (![0, 0] : Fin 2 → ℕ) a + S1024x1024.size a ≤ S1024x1024.size a) (w : S1024x1024.Idx → Elt Ideal e)
    (L : List (View.Piece (Elt Ideal) S1024x1024 e)) :
    v.read (Elt Ideal) (v.writes (Elt Ideal) f (⟨Rect.unit (s := S1024x1024) ![0, 0] S1024x1024.size inb, w⟩ :: L)) = w := by
  funext y
  exact View.read_writes_cons_rows_of_mem v f inb w L y y rfl (Nat.zero_add _).symm rfl

/-- A first point of 24 clears the accumulator and adds the blocks' product. -/
theorem runA (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 : Vec Ideal S1024x1024 .bf16) (x2 : Vec Ideal S1024x1024 .f32) (d6 : Vec Ideal S1024x1024 .i8) (d7 : Vec Ideal S1024x64 .f32) (d8 : Vec Ideal S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d6 ∗ owns (c : Thread nD τ) arg7 fullShare d7 ∗ owns (c : Thread nD τ) arg8 fullShare d8 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare d6 ∗ owns (c : Thread nD τ) arg7 fullShare d7 ∗ owns (c : Thread nD τ) arg8 fullShare d8 ∗ owns (c : Thread nD τ) arg9 fullShare (k0_pay2 (F := Ideal) (k0_pay1 (F := Ideal)) x0 x1)) -∗ K ⟨⟩))
      ⊢ wp frame (wpE (defs₀ (F := Ideal)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, %hfs0, HS0⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact HS0
  ipureintro
  refine (read_whole _ _ _ _ _).trans ?_
  rw [View.readAt_full, View.readAt_full, hf0, hf1]
  refine congrArg (fun a => k0_pay2 (F := Ideal) a x0 x1) ?_
  exact (View.readAt_full _ _ _).trans (read_whole _ _ _ _ _)

/-- A point in between adds the blocks' product to the accumulator. -/
theorem runB (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 : Vec Ideal S1024x1024 .bf16) (x2 : Vec Ideal S1024x1024 .f32) (xs0 : Vec Ideal S1024x1024 .f32) (d6 : Vec Ideal S1024x1024 .i8) (d7 : Vec Ideal S1024x64 .f32) (d8 : Vec Ideal S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d6 ∗ owns (c : Thread nD τ) arg7 fullShare d7 ∗ owns (c : Thread nD τ) arg8 fullShare d8 ∗ owns (c : Thread nD τ) arg9 fullShare xs0
        ∗ (iprop(owns (c : Thread nD τ) arg3 fullShare x0 ∗ owns (c : Thread nD τ) arg4 fullShare x1 ∗ owns (c : Thread nD τ) arg5 fullShare x2 ∗ owns (c : Thread nD τ) arg6 fullShare d6 ∗ owns (c : Thread nD τ) arg7 fullShare d7 ∗ owns (c : Thread nD τ) arg8 fullShare d8 ∗ owns (c : Thread nD τ) arg9 fullShare (k0_pay2 (F := Ideal) xs0 x0 x1)) -∗ K ⟨⟩))
      ⊢ wp frame (wpE (defs₀ (F := Ideal)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; isplitr; swap; · iexact HS0
  ipureintro
  refine (read_whole _ _ _ _ _).trans ?_
  rw [View.readAt_full, View.readAt_full, View.readAt_full, hf0, hf1, hfs0]

/-- A last point of 24 adds the blocks' product and quantises the tile. -/
theorem runC (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 : Vec Ideal S1024x1024 .bf16) (x2 : Vec Ideal S1024x1024 .f32) (xs0 : Vec Ideal S1024x1024 .f32) (d6 : Vec Ideal S1024x1024 .i8) (d7 : Vec Ideal S1024x64 .f32) (d8 : Vec Ideal S1024x1024 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare d6 ∗ owns (c : Thread nD τ) arg7 fullShare d7 ∗ owns (c : Thread nD τ) arg8 fullShare d8 ∗ owns (c : Thread nD τ) arg9 fullShare xs0
        ∗ (iprop(owns (c : Thread nD τ) arg3 fullShare x0 ∗ owns (c : Thread nD τ) arg4 fullShare x1 ∗ owns (c : Thread nD τ) arg5 fullShare x2 ∗ owns (c : Thread nD τ) arg6 fullShare (T6 (fun y => k0_pay2 (F := Ideal) xs0 x0 x1 y + x2 y)) ∗ owns (c : Thread nD τ) arg7 fullShare (T7 (i 1).val (fun y => k0_pay2 (F := Ideal) xs0 x0 x1 y + x2 y) d7) ∗ owns (c : Thread nD τ) arg8 fullShare (T8 (fun y => k0_pay2 (F := Ideal) xs0 x0 x1 y + x2 y)) ∗ owns (c : Thread nD τ) arg9 fullShare (k0_pay2 (F := Ideal) xs0 x0 x1)) -∗ K ⟨⟩))
      ⊢ wp frame (wpE (defs₀ (F := Ideal)) Variants.none c none) E (cc0_grad_quant i arg3 harg3 arg4 harg4 arg5 harg5 arg6 harg6 arg7 harg7 arg8 harg8 arg9 harg9) K := by
  simp only [cc0_grad_quant_eq_skeleton]; unfold cc0_grad_quant_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  have hacc : arg9.view.read (Elt Ideal) (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩]) = k0_pay2 (F := Ideal) xs0 x0 x1 := by
    rw [read_whole, View.readAt_full, View.readAt_full, View.readAt_full, hf0, hf1, hfs0]
  have htile : tileOf arg5 arg9 f2 (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩]) = (fun y => k0_pay2 (F := Ideal) xs0 x0 x1 y + x2 y) := by
    unfold tileOf; rw [hacc, hf2]
  have h6 : ∀ (r c : Fin 1024), r.val < 32 * 0 → arg6.view.read (Elt Ideal) f3 (ix2 r c) = T6 (tileOf arg5 arg9 f2 (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩])) (ix2 r c) :=
    fun r _ h => absurd h (Nat.not_lt_zero _)
  have h7 : ∀ (r : Fin 1024) (l : Fin 64), arg7.view.read (Elt Ideal) f4 (ix2 r l) = if r.val < 32 * 0 then T7 (i 1).val (tileOf arg5 arg9 f2 (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩])) d7 (ix2 r l) else d7 (ix2 r l) :=
    fun r l => by rw [if_neg (Nat.not_lt_zero _), hf4]
  have h8 : ∀ (r c : Fin 1024), r.val < 32 * 0 → arg8.view.read (Elt Ideal) f5 (ix2 r c) = T8 (tileOf arg5 arg9 f2 (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩])) (ix2 r c) :=
    fun r _ h => absurd h (Nat.not_lt_zero _)
  let L := rowsLoop c E i arg3 harg3 arg4 harg4 arg5 harg5 arg6 harg6 arg7 harg7 arg8 harg8 arg9 harg9 hc1 f2 (arg9.view.writes (Elt Ideal) arg9.view.junk [⟨Rect.unit (s := S1024x1024) ![0, 0] S1024x1024.size inb_S1024x1024_S1024x1024_0_0, k0_pay2 (arg9.view.readAt (Elt Ideal) (Rect.unit (s := S1024x1024) ![0, 0] S1024x1024.size inb_S1024x1024_S1024x1024_0_0).toLoadRect fs0) (arg3.view.readAt (Elt Ideal) (Rect.unit (s := S1024x1024) ![0, 0] S1024x1024.size inb_S1024x1024_S1024x1024_0_0).toLoadRect f0) (arg4.view.readAt (Elt Ideal) (Rect.unit (s := S1024x1024) ![0, 0] S1024x1024.size inb_S1024x1024_S1024x1024_0_0).toLoadRect f1)⟩]) d7
  sl_exec (disch := first | sl_exact hc0 | sl_exact hc1)
  have htr : Scf.trips k0_t1_loop.lb k0_t1_loop.ub k0_t1_loop.st = 32 := by decide +kernel
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [← htile]
    funext y
    rw [← ix2_eta y]
    exact hL3 (y 0) (y 1) (by rw [htr]; exact (y 0).isLt)
  isplitl [H4]
  · iexists _; isplitr; swap; · iexact H4
    ipureintro
    rw [← htile]
    funext y
    rw [← ix2_eta y]
    exact (hL5 (y 0) (y 1)).trans (if_pos (by rw [htr]; exact (y 0).isLt))
  isplitl [H5]
  · iexists _; isplitr; swap; · iexact H5
    ipureintro
    rw [← htile]
    funext y
    rw [← ix2_eta y]
    exact hL7 (y 0) (y 1) (by rw [htr]; exact (y 0).isLt)
  iexists _; isplitr; swap; · iexact HS0
  ipureintro
  exact hacc

end Cert.KernelIdeal.Gen

end
-- ==== Proof.KRun.lean ====
/- The kernel's run: what every grid point leaves, and the launch. -/
module

public import proofs.«01_k».proof.Proof.Gen.KernelIdeal.Frame
public import proofs.«01_k».proof.Proof.KBody
public import Idealize.ShloMosaic.Lib.Pipeline.TableIdle

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Payload Cert.KernelIdeal.Tile Cert.Quant

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x1024 .f32 := Memref.whole cc0_scratch0
/-- The scratch `arg9` the kernel carries between points, as a view: what it holds is stated through it. -/
abbrev VS0_0 : View sig .tc .vmem S1024x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the buffers hold after each point -/

/-- The accumulator after the point at position `n`: cleared at the first point of 24, then the blocks' products added. -/
def acc (c : Dev nD) : (n : ℕ) → n < cfg0.N → FVec Ideal S1024x1024 .f32
  | 0, hn => k0_pay2 (F := Ideal) (k0_pay1 (F := Ideal)) (iblk m c 0 ⟨0, hn⟩) (iblk m c 1 ⟨0, hn⟩)
  | n + 1, hn => k0_pay2 (F := Ideal) (if (n + 1) % 24 = 0 then k0_pay1 (F := Ideal) else acc c n (Nat.lt_of_succ_lt hn))
      (iblk m c 0 ⟨n + 1, hn⟩) (iblk m c 1 ⟨n + 1, hn⟩)

/-- At a first point of 24 the accumulator is the blocks' product. -/
theorem acc_first (c : Dev nD) (t : Fin cfg0.N) (h0 : t.val % 24 = 0) :
    acc m c t.val t.isLt = k0_pay2 (F := Ideal) (k0_pay1 (F := Ideal)) (iblk m c 0 t) (iblk m c 1 t) := by
  obtain ⟨n, hn⟩ := t
  cases n with
  | zero => rfl
  | succ n =>
    show k0_pay2 (F := Ideal) (if (n + 1) % 24 = 0 then k0_pay1 (F := Ideal) else acc m c n (Nat.lt_of_succ_lt hn)) _ _ = _
    rw [if_pos h0]

/-- At any other point the product is added to what the point before left. -/
theorem acc_next (c : Dev nD) (t : Fin cfg0.N) (h0 : ¬t.val % 24 = 0) :
    acc m c t.val t.isLt = k0_pay2 (F := Ideal) (acc m c (t.val - 1) (Nat.lt_of_le_of_lt (Nat.sub_le _ _) t.isLt)) (iblk m c 0 t) (iblk m c 1 t) := by
  obtain ⟨n, hn⟩ := t
  cases n with
  | zero => exact absurd (Nat.zero_mod _) h0
  | succ n =>
    show k0_pay2 (F := Ideal) (if (n + 1) % 24 = 0 then k0_pay1 (F := Ideal) else acc m c n (Nat.lt_of_succ_lt hn)) _ _ = _
    rw [if_neg h0]
    rfl

/-- The tile at a point: the accumulator plus the carried error's block. -/
def tileAt (c : Dev nD) (t : Fin cfg0.N) : FVec Ideal S1024x1024 .f32 :=
  fun y => acc m c t.val t.isLt y + (show Vec Ideal S1024x1024 .f32 from iblk m c 2 t) y

/-- The last point of the 24 that fill column block `l / 8` in the same row of blocks as point `t`. -/
theorem last_lt (t : Fin cfg0.N) (l : Fin 64) : 192 * (t.val / 192) + 24 * (l.val / 8) + 23 < cfg0.N := by
  have ht : t.val < 1536 := Nat.lt_of_lt_of_eq t.isLt N_0
  have hl := l.isLt
  show _ < 1536
  omega

/-- The block of scales after a last point of 24: the columns filled so far hold their tiles' scales, the others zero. -/
def sclAt (c : Dev nD) (t : Fin cfg0.N) : Vec Ideal S1024x64 .f32 := fun y =>
  if (y 1).val < 8 * (t.val / 24 % 8) + 8 then
    tscl (tileAt m c ⟨192 * (t.val / 192) + 24 * ((y 1).val / 8) + 23, last_lt t (y 1)⟩) (y 0) ((y 1).val % 8) (Nat.mod_lt _ (by decide))
  else 0

/-- The region invariant before position `n`: before the first point the scratch at anything; afterwards the accumulator
at what the point before left. -/
def PhiS (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (acc m c (n - 1) (by omega))) ∗ (∃ r, prngReg c r)) := by
  cases n with
  | zero => exact absurd rfl hz
  | succ n => rfl

/-- The proof data of the pipeline: the arrays as the region finds them; after the body at point `t` each input's buffer at
its block, the codes' and the residue's at the tile's, the scales' at those filled so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => T6 (tileAt m c t)
    | ⟨4, _⟩ => sclAt m c t
    | ⟨5, _⟩ => T8 (tileAt m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = T6 (tileAt m c t) := by dsimp only [dats]
theorem after0_4 (c : Dev nD) (t : Fin cfg0.N) : (dats m 0 c).after 4 t = sclAt m c t := by dsimp only [dats]
theorem after0_5 (c : Dev nD) (t : Fin cfg0.N) : (dats m 0 c).after 5 t = T8 (tileAt m c t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## Where the outputs are idle -/

/-- An output is stored at the last points of 24 only. -/
theorem idle_eq (i : grid0.Coords) : idle0 3 i = !(k0_cond2 i == 1#1) ∧ idle0 4 i = !(k0_cond2 i == 1#1) ∧ idle0 5 i = !(k0_cond2 i == 1#1) :=
  ⟨rfl, rfl, rfl⟩

theorem idle_of (t : Fin cfg0.N) (h1 : ¬t.val % 24 = 23) :
    cfg0.idle 3 (grid0.coords t) = true ∧ cfg0.idle 4 (grid0.coords t) = true ∧ cfg0.idle 5 (grid0.coords t) = true := by
  have h : (!(k0_cond2 (grid0.coords t) == 1#1)) = true := by
    rw [Bool.not_eq_true', beq_eq_false_iff_ne]
    exact fun h => h1 ((hcond0_1 t).mp h)
  exact ⟨h, h, h⟩

theorem live_of (t : Fin cfg0.N) (h1 : t.val % 24 = 23) :
    cfg0.idle 3 (grid0.coords t) = false ∧ cfg0.idle 4 (grid0.coords t) = false ∧ cfg0.idle 5 (grid0.coords t) = false := by
  have h : (!(k0_cond2 (grid0.coords t) == 1#1)) = false := by
    rw [Bool.not_eq_false', beq_iff_eq]
    exact (hcond0_1 t).mpr h1
  exact ⟨h, h, h⟩

theorem unflushed3 (t : Fin cfg0.N) (h1 : ¬t.val % 24 = 23) : (cfg0.win 3).flush t = false :=
  Bool.eq_false_iff.mpr fun h => h1 ((flush0_3 t).mp h)
theorem unflushed4 (t : Fin cfg0.N) (h1 : ¬t.val % 192 = 191) : (cfg0.win 4).flush t = false :=
  Bool.eq_false_iff.mpr fun h => h1 ((flush0_4 t).mp h)
theorem unflushed5 (t : Fin cfg0.N) (h1 : ¬t.val % 24 = 23) : (cfg0.win 5).flush t = false :=
  Bool.eq_false_iff.mpr fun h => h1 ((flush0_5 t).mp h)

/-- At a last point of 24 that is not the row of blocks' first, the block of scales holds what the last such point left. -/
theorem before0_4 (c : Dev nD) (t : Fin cfg0.N) (h1 : t.val % 24 = 23) (hj : t.val / 24 % 8 ≠ 0) (d) :
    (dats m 0 c).before 4 t d = sclAt m c ⟨t.val - 24, Nat.lt_of_le_of_lt (Nat.sub_le _ _) t.isLt⟩ := by
  have hN : t.val < 1536 := Nat.lt_of_lt_of_eq t.isLt N_0
  rw [(dats m 0 c).before_idle_run 4 (fun _ => rfl) d 23 t (by omega) (fun j hj1 hj2 =>
    ⟨(idle_of j (by omega)).2.1, unflushed4 j (by omega)⟩)]
  rw [(dats m 0 c).before_of_pos 4 _ (by show t.val - 23 ≠ 0; omega) rfl d]
  rw [if_neg (by rw [unflushed4 _ (by show ¬(t.val - 23 - 1) % 192 = 191; omega)]; exact Bool.false_ne_true)]
  unfold Dat.left
  rw [(live_of _ (by show (t.val - 23 - 1) % 24 = 23; omega)).2.1]
  show (dats m 0 c).after 4 _ = _
  rw [after0_4]
  congr 1

/-- What a last point of 24 stores in the block of scales over what it finds there. -/
theorem T7_before (c : Dev nD) (t : Fin cfg0.N) (h1 : t.val % 24 = 23) (d) :
    T7 (grid0.coords t 1).val (tileAt m c t) ((dats m 0 c).before 4 t d) = sclAt m c t := by
  have hN : t.val < 1536 := Nat.lt_of_lt_of_eq t.isLt N_0
  have e1 : (grid0.coords t 1).val = t.val / 24 % 8 := Pipeline.Grid.coords_val t 1 (by decide) rfl
  rw [e1]
  funext y
  have hy : (y 1).val < 64 := (y 1).isLt
  unfold T7
  by_cases h : 8 * (t.val / 24 % 8) ≤ (y 1).val ∧ (y 1).val < 8 * (t.val / 24 % 8) + 8
  · rw [dif_pos h]
    unfold sclAt
    rw [if_pos h.2]
    have ht : (⟨192 * (t.val / 192) + 24 * ((y 1).val / 8) + 23, last_lt t (y 1)⟩ : Fin cfg0.N) = t := Fin.ext (by show 192 * (t.val / 192) + 24 * ((y 1).val / 8) + 23 = t.val; omega)
    rw [ht]
    have hm : (y 1).val - 8 * (t.val / 24 % 8) = (y 1).val % 8 := by omega
    congr 1
  · rw [dif_neg h]
    by_cases hj : t.val / 24 % 8 = 0
    · rw [if_pos hj]
      unfold sclAt
      rw [if_neg (by omega)]
    · rw [if_neg hj, before0_4 m c t h1 hj]
      unfold sclAt
      by_cases hlt : (y 1).val < 8 * (t.val / 24 % 8)
      · rw [if_pos (by show (y 1).val < 8 * ((t.val - 24) / 24 % 8) + 8; omega), if_pos (by omega)]
        have e : (t.val - 24) / 192 = t.val / 192 := by omega
        have ht : (⟨192 * ((t.val - 24) / 192) + 24 * ((y 1).val / 8) + 23, last_lt ⟨t.val - 24, Nat.lt_of_le_of_lt (Nat.sub_le _ _) t.isLt⟩ (y 1)⟩ : Fin cfg0.N)
          = ⟨192 * (t.val / 192) + 24 * ((y 1).val / 8) + 23, last_lt t (y 1)⟩ := Fin.ext (by show 192 * ((t.val - 24) / 192) + _ + _ = 192 * (t.val / 192) + _ + _; rw [e])
        exact congrArg (fun p => tscl (tileAt m c p) (y 0) ((y 1).val % 8) (Nat.mod_lt _ (by decide))) ht
      · rw [if_neg (by show ¬(y 1).val < 8 * ((t.val - 24) / 24 % 8) + 8; omega), if_neg (by omega)]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 1536 := lt_of_lt_of_eq t.isLt (show cfg0.N = 1536 from N_0)
  rw [show (dats m 0 c).leavesExact 0 t = owns (c : Thread nD τ) (ms0_0 t) fullShare ((dats m 0 c).after 0 t) from by
    unfold Dat.leavesExact; rw [show cfg0.idle 0 (grid0.coords t) = false from rfl], after0_0]
  rw [show (dats m 0 c).leavesExact 1 t = owns (c : Thread nD τ) (ms0_1 t) fullShare ((dats m 0 c).after 1 t) from by
    unfold Dat.leavesExact; rw [show cfg0.idle 1 (grid0.coords t) = false from rfl], after0_1]
  rw [show (dats m 0 c).leavesExact 2 t = owns (c : Thread nD τ) (ms0_2 t) fullShare ((dats m 0 c).after 2 t) from by
    unfold Dat.leavesExact; rw [show cfg0.idle 2 (grid0.coords t) = false from rfl], after0_2]
  by_cases h1 : t.val % 24 = 23
  · have h0 : ¬t.val % 24 = 0 := by omega
    rw [show (dats m 0 c).leavesExact 3 t = owns (c : Thread nD τ) (ms0_3 t) fullShare ((dats m 0 c).after 3 t) from by
      unfold Dat.leavesExact; rw [(live_of t h1).1], after0_3]
    rw [show (dats m 0 c).leavesExact 4 t = owns (c : Thread nD τ) (ms0_4 t) fullShare ((dats m 0 c).after 4 t) from by
      unfold Dat.leavesExact; rw [(live_of t h1).2.1], after0_4]
    rw [show (dats m 0 c).leavesExact 5 t = owns (c : Thread nD τ) (ms0_5 t) fullShare ((dats m 0 c).after 5 t) from by
      unfold Dat.leavesExact; rw [(live_of t h1).2.2], after0_5]
    rw [PhiS_castSucc m c t, PhiS_pos m c _ _ (by omega)]
    iintro ⟨⟨HS0, Hg⟩, Ho, ⟨%d0, H0⟩, ⟨%d1, H1⟩, ⟨%d2, H2⟩, ⟨%d3, H3⟩, ⟨%d4, H4⟩, ⟨%d5, H5⟩⟩
    iapply (runC c (grid0.coords t) _ _ _ _ _ _ _ _ _ _ _ _ _ _ (fun h => h0 ((hcond0_0 t).mp h)) ((hcond0_1 t).mpr h1) (iblk m c 0 t) (iblk m c 1 t) (iblk m c 2 t) (acc m c (t.val - 1) (Nat.lt_of_le_of_lt (Nat.sub_le _ _) t.isLt))
      ((dats m 0 c).before 3 t d3) ((dats m 0 c).before 4 t d4) ((dats m 0 c).before 5 t d5) Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    rw [← acc_next m c t h0]
    rw [show (fun y => acc m c t.val t.isLt y + (show Vec Ideal S1024x1024 .f32 from iblk m c 2 t) y) = tileAt m c t from rfl]
    rw [T7_before m c t h1 d4]
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [(dats m 0 c).leavesExact_idle 3 t (idle_of t h1).1 (unflushed3 t h1),
      (dats m 0 c).leavesExact_idle 4 t (idle_of t h1).2.1 (unflushed4 t (by omega)),
      (dats m 0 c).leavesExact_idle 5 t (idle_of t h1).2.2 (unflushed5 t h1)]
    by_cases h0 : t.val % 24 = 0
    · by_cases hz : t.val = 0
      · rw [PhiS_castSucc m c t, PhiS_zero m c _ _ hz, PhiA0_eq, acc_first m c t h0]
        iintro ⟨⟨HS0, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ ((hcond0_0 t).mpr h0) (fun h => h1 ((hcond0_1 t).mp h)) (iblk m c 0 t) (iblk m c 1 t) (iblk m c 2 t) ((dats m 0 c).before 3 t d3) ((dats m 0 c).before 4 t d4) ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
      · rw [PhiS_castSucc m c t, PhiS_pos m c _ _ hz, acc_first m c t h0]
        iintro ⟨⟨HS0, Hg⟩, Ho, ⟨%d0, H0⟩, ⟨%d1, H1⟩, ⟨%d2, H2⟩, ⟨%d3, H3⟩, ⟨%d4, H4⟩, ⟨%d5, H5⟩⟩
        iapply (runA c (grid0.coords t) _ _ _ _ _ _ _ _ _ _ _ _ _ _ ((hcond0_0 t).mpr h0) (fun h => h1 ((hcond0_1 t).mp h)) (iblk m c 0 t) (iblk m c 1 t) (iblk m c 2 t) ((dats m 0 c).before 3 t d3) ((dats m 0 c).before 4 t d4) ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5
    · rw [PhiS_castSucc m c t, PhiS_pos m c _ _ (by omega), acc_next m c t h0]
      iintro ⟨⟨HS0, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (fun h => h0 ((hcond0_0 t).mp h)) (fun h => h1 ((hcond0_1 t).mp h)) (iblk m c 0 t) (iblk m c 1 t) (iblk m c 2 t) (acc m c (t.val - 1) (Nat.lt_of_le_of_lt (Nat.sub_le _ _) t.isLt)) ((dats m 0 c).before 3 t d3) ((dats m 0 c).before 4 t d4) ((dats m 0 c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 1536 := N_0; omega)

/-! ## The launch -/

set_option backward.isDefEq.respectTransparency.types false in
/-- Every execution of the kernel ends, every array of the pipeline at what the proof data give and every semaphore zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Gen

end
-- ==== Proof.Spec.lean ====
/- The three results as functions of the three arguments, over the extended reals. -/
module

public import proofs.«01_k».proof.KernelIdeal
public import proofs.«01_k».proof.Proof.Quant

@[expose] public section

set_option maxRecDepth 16384

noncomputable section

namespace Cert.Spec

open Idealize.ShloMosaic Idealize.ShloMosaic.TcCoe Cert.KernelIdeal Cert.Quant

/-- The gradient at row `r`, column `l`, plus the carried error there. -/
def val (dy x : FVec Ideal S24576x8192 .bf16) (err : FVec Ideal S8192x8192 .f32) (r l : Fin 8192) : EReal :=
  (∑ t : Fin 24576, dy (ix2 t r) * x (ix2 t l)) + err (ix2 r l)

/-- The scale of block `b` (columns `128 b` to `128 b + 127`) of row `r`. -/
def scale (dy x : FVec Ideal S24576x8192 .bf16) (err : FVec Ideal S8192x8192 .f32) (r : Fin 8192) (b : Fin 64) : EReal :=
  scl fun l : Fin 128 => val dy x err r ⟨128 * b.val + l.val, by have := l.isLt; have := b.isLt; omega⟩

/-- The block a column lies in. -/
def blockOf (l : Fin 8192) : Fin 64 := ⟨l.val / 128, by have := l.isLt; omega⟩

/-- The codes. -/
def codes (dy x : FVec Ideal S24576x8192 .bf16) (err : FVec Ideal S8192x8192 .f32) : Vec Ideal S8192x8192 .i8 := fun y =>
  code8 (val dy x err (y 0) (y 1)) (scale dy x err (y 0) (blockOf (y 1)))

/-- The scales. -/
def scales (dy x : FVec Ideal S24576x8192 .bf16) (err : FVec Ideal S8192x8192 .f32) : Vec Ideal S8192x64 .f32 := fun y =>
  scale dy x err (y 0) (y 1)

/-- The new error: each element less what its code stands for. -/
def residue (dy x : FVec Ideal S24576x8192 .bf16) (err : FVec Ideal S8192x8192 .f32) : Vec Ideal S8192x8192 .f32 := fun y =>
  left (val dy x err (y 0) (y 1)) (scale dy x err (y 0) (blockOf (y 1)))

end Cert.Spec

end
-- ==== Proof.KValue.lean ====
/- What the kernel's three result arrays hold after the run. -/
module

public import proofs.«01_k».proof.Proof.KRun
public import proofs.«01_k».proof.Proof.Spec
public import Idealize.ShloMosaic.Lib.Pipeline.ValueKit
public import Idealize.ShloMosaic.Lib.Pointwise

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Payload Cert.KernelIdeal.Tile Cert.Quant

local notation "𝕄" => MT nD τ sig Unit (Elt Ideal) ℕ (UR sig nD τ) ℕ

open Cert.Spec

variable (m : (ℓ : Loc nD τ sig) → Buf (Elt Ideal) ℓ) (ρ : Dev nD → PrngReg)

/-- Where each window's block lies at each point. -/
theorem idx : ∀ t : Fin cfg0.N, win0_0.index t = ![t.val % 24, t.val / 192] ∧ win0_1.index t = ![t.val % 24, t.val / 24 % 8]
    ∧ win0_2.index t = ![t.val / 192, t.val / 24 % 8] ∧ win0_3.index t = ![t.val / 192, t.val / 24 % 8]
    ∧ win0_4.index t = ![t.val / 192, 0] ∧ win0_5.index t = ![t.val / 192, t.val / 24 % 8] :=
  (by decide +kernel : ∀ t : Fin grid0.N, _)

/-- The upstream gradient's array, -/
abbrev aDy (c : Dev nD) : FVec Ideal S24576x8192 .bf16 := m ((c : Thread nD τ).loc main_arg1)
/-- the inputs' array, -/
abbrev aX (c : Dev nD) : FVec Ideal S24576x8192 .bf16 := m ((c : Thread nD τ).loc main_arg0)
/-- and the carried error's. -/
abbrev aErr (c : Dev nD) : FVec Ideal S8192x8192 .f32 := m ((c : Thread nD τ).loc main_arg2)

/-- Row `r` of the tiles at point `t`, in the array. -/
def rowOf (t : Fin cfg0.N) (r : Fin 1024) : Fin 8192 :=
  ⟨1024 * (t.val / 192) + r.val, by have ht : t.val < 1536 := Nat.lt_of_lt_of_eq t.isLt N_0; have := r.isLt; omega⟩
/-- Column `l` of the tiles at point `t`, in the array. -/
def colOf (t : Fin cfg0.N) (l : Fin 1024) : Fin 8192 :=
  ⟨1024 * (t.val / 24 % 8) + l.val, by have ht : t.val < 1536 := Nat.lt_of_lt_of_eq t.isLt N_0; have := l.isLt; omega⟩
/-- Token `x` of the blocks at point `t`, in the array. -/
def tokOf (t : Fin cfg0.N) (x : Fin 1024) : Fin 24576 :=
  ⟨1024 * (t.val % 24) + x.val, by have := x.isLt; omega⟩

/-- The upstream gradient's block at a point. -/
theorem iblk0_apply (c : Dev nD) (t : Fin cfg0.N) (x r : Fin 1024) :
    (show Vec Ideal S1024x1024 .bf16 from iblk m c 0 t) (ix2 x r) = aDy m c (ix2 (tokOf t x) (rowOf t r)) := by
  show iblk m c 0 t (ix2 x r) = _
  unfold tokOf rowOf aDy
  blk_ext [iblk, V, idx t]

/-- The inputs' block at a point. -/
theorem iblk1_apply (c : Dev nD) (t : Fin cfg0.N) (x l : Fin 1024) :
    (show Vec Ideal S1024x1024 .bf16 from iblk m c 1 t) (ix2 x l) = aX m c (ix2 (tokOf t x) (colOf t l)) := by
  show iblk m c 1 t (ix2 x l) = _
  unfold tokOf colOf aX
  blk_ext [iblk, V, idx t]

/-- The carried error's block at a point. -/
theorem iblk2_apply (c : Dev nD) (t : Fin cfg0.N) (r l : Fin 1024) :
    (show Vec Ideal S1024x1024 .f32 from iblk m c 2 t) (ix2 r l) = aErr m c (ix2 (rowOf t r) (colOf t l)) := by
  show iblk m c 2 t (ix2 r l) = _
  unfold rowOf colOf aErr
  blk_ext [iblk, V, idx t]

/-- The accumulator's step at an element. -/
theorem pay2_apply (u : FVec Ideal S1024x1024 .f32) (a b : FVec Ideal S1024x1024 .bf16) (r l : Fin 1024) :
    k0_pay2 (F := Ideal) u a b (ix2 r l) = u (ix2 r l) + ∑ x : Fin 1024, a (ix2 x r) * b (ix2 x l) := by
  pointwise [k0_pay2]

/-- The accumulator's start is zero. -/
theorem pay1_apply (r l : Fin 1024) : k0_pay1 (F := Ideal) (ix2 r l) = 0 := by
  pointwise [k0_pay1]

/-- The product of token `n`'s elements at row `r`, column `l`. -/
def term (c : Dev nD) (r l : Fin 8192) (n : ℕ) : EReal :=
  if h : n < 24576 then aDy m c (ix2 ⟨n, h⟩ r) * aX m c (ix2 ⟨n, h⟩ l) else 0

/-- The products a point adds. -/
theorem step_apply (c : Dev nD) (t : Fin cfg0.N) (u : FVec Ideal S1024x1024 .f32) (r l : Fin 1024) :
    k0_pay2 (F := Ideal) u (iblk m c 0 t) (iblk m c 1 t) (ix2 r l)
      = u (ix2 r l) + ∑ x ∈ Finset.range 1024, term m c (rowOf t r) (colOf t l) (1024 * (t.val % 24) + x) := by
  refine (pay2_apply u _ _ r l).trans ?_
  rw [Finset.sum_range]
  refine congrArg _ (Finset.sum_congr rfl fun x _ => ?_)
  unfold term
  rw [dif_pos (by have := x.isLt; omega)]
  exact congrArg₂ (fun a b : EReal => a * b) (iblk0_apply m c t x r) (iblk1_apply m c t x l)

/-- The accumulator after a point: the products of the tokens so far. -/
theorem acc_apply (c : Dev nD) : ∀ (n : ℕ) (hn : n < cfg0.N) (r l : Fin 1024),
    acc m c n hn (ix2 r l) = ∑ x ∈ Finset.range (1024 * (n % 24) + 1024), term m c (rowOf ⟨n, hn⟩ r) (colOf ⟨n, hn⟩ l) x := by
  intro n
  induction n with
  | zero =>
    intro hn r l
    rw [acc_first m c ⟨0, hn⟩ rfl]
    refine (step_apply m c ⟨0, hn⟩ _ r l).trans ?_
    rw [pay1_apply, zero_add]
    refine Finset.sum_congr rfl fun x _ => ?_
    rw [show 1024 * (0 % 24) + x = x from by omega]
  | succ n ih =>
    intro hn r l
    by_cases h0 : (n + 1) % 24 = 0
    · rw [acc_first m c ⟨n + 1, hn⟩ h0]
      refine (step_apply m c ⟨n + 1, hn⟩ _ r l).trans ?_
      rw [pay1_apply, zero_add]
      rw [show 1024 * ((n + 1) % 24) + 1024 = 1024 from by omega]
      refine Finset.sum_congr rfl fun x _ => ?_
      rw [show 1024 * ((n + 1) % 24) + x = x from by omega]
    · rw [acc_next m c ⟨n + 1, hn⟩ h0]
      refine (step_apply m c ⟨n + 1, hn⟩ _ r l).trans ?_
      rw [Finset.sum_range_add]
      refine congrArg (· + _) ?_
      refine (ih (Nat.lt_of_succ_lt hn) r l).trans ?_
      have hr : rowOf ⟨n, Nat.lt_of_succ_lt hn⟩ r = rowOf ⟨n + 1, hn⟩ r := Fin.ext (by
        show 1024 * (n / 192) + r.val = 1024 * ((n + 1) / 192) + r.val; omega)
      have hl : colOf ⟨n, Nat.lt_of_succ_lt hn⟩ l = colOf ⟨n + 1, hn⟩ l := Fin.ext (by
        show 1024 * (n / 24 % 8) + l.val = 1024 * ((n + 1) / 24 % 8) + l.val; omega)
      rw [hr, hl, show 1024 * (n % 24) + 1024 = 1024 * ((n + 1) % 24) from by omega]

/-- A sum over the first `N` numbers, as one over their type. -/
theorem sum_tokens (N M : ℕ) (hM : M = N) (f : ℕ → EReal) (g : Fin N → EReal) (h : ∀ x : Fin N, f x.val = g x) :
    ∑ x ∈ Finset.range M, f x = ∑ x : Fin N, g x := by
  subst hM
  rw [Finset.sum_range]
  exact Finset.sum_congr rfl fun x _ => h x

/-- The tile at a last point of 24 is the gradient plus the carried error, at the tile's place. -/
theorem tileAt_apply (c : Dev nD) (t : Fin cfg0.N) (h1 : t.val % 24 = 23) (r l : Fin 1024) :
    tileAt m c t (ix2 r l) = val (aDy m c) (aX m c) (aErr m c) (rowOf t r) (colOf t l) := by
  show acc m c t.val t.isLt (ix2 r l) + (show Vec Ideal S1024x1024 .f32 from iblk m c 2 t) (ix2 r l) = _
  rw [acc_apply m c t.val t.isLt r l, iblk2_apply m c t r l]
  unfold val
  refine congrArg (· + _) ?_
  exact sum_tokens 24576 _ (by omega) _ _ fun x => dif_pos x.isLt

/-- A tile's scales are the array's. -/
theorem tscl_apply (c : Dev nD) (t : Fin cfg0.N) (h1 : t.val % 24 = 23) (r : Fin 1024) (b : ℕ) (hb : b < 8)
    (R : Fin 8192) (B : Fin 64) (hR : R = rowOf t r) (hB : B.val = 8 * (t.val / 24 % 8) + b) :
    tscl (tileAt m c t) r b hb = scale (aDy m c) (aX m c) (aErr m c) R B := by
  subst hR
  unfold tscl scale
  refine congrArg scl (funext fun l => ?_)
  refine (tileAt_apply m c t h1 r _).trans ?_
  refine congrArg _ (Fin.ext ?_)
  show 1024 * (t.val / 24 % 8) + (128 * b + l.val) = 128 * B.val + l.val
  omega

/-- A tile's element, at any index. -/
theorem tileAt_idx (c : Dev nD) (t : Fin cfg0.N) (h1 : t.val % 24 = 23) (y : S1024x1024.Idx) :
    tileAt m c t y = val (aDy m c) (aX m c) (aErr m c) (rowOf t (y 0)) (colOf t (y 1)) :=
  (congrArg (tileAt m c t) (ix2_eta y).symm).trans (tileAt_apply m c t h1 (y 0) (y 1))

/-- The scale of the block an element of a tile lies in. -/
theorem tscl_idx (c : Dev nD) (t : Fin cfg0.N) (h1 : t.val % 24 = 23) (y : S1024x1024.Idx) :
    tscl (tileAt m c t) (y 0) ((y 1).val / 128) (col_lt (y 1))
      = scale (aDy m c) (aX m c) (aErr m c) (rowOf t (y 0)) (blockOf (colOf t (y 1))) :=
  tscl_apply m c t h1 (y 0) _ _ _ _ rfl (by
    show (1024 * (t.val / 24 % 8) + (y 1).val) / 128 = 8 * (t.val / 24 % 8) + (y 1).val / 128
    omega)

/-- A tile's codes are the array's, at the tile's place. -/
theorem point3 (c : Dev nD) (t : Fin cfg0.N) (h1 : t.val % 24 = 23) (y : S1024x1024.Idx) (z : S8192x8192.Idx)
    (hz0 : z 0 = rowOf t (y 0)) (hz1 : z 1 = colOf t (y 1)) : T6 (tileAt m c t) y = codes (aDy m c) (aX m c) (aErr m c) z := by
  show code8 _ _ = code8 (val _ _ _ (z 0) (z 1)) (scale _ _ _ (z 0) (blockOf (z 1)))
  rw [hz0, hz1]
  exact congrArg₂ code8 (tileAt_idx m c t h1 y) (tscl_idx m c t h1 y)

/-- A tile's residue is the array's, at the tile's place. -/
theorem point5 (c : Dev nD) (t : Fin cfg0.N) (h1 : t.val % 24 = 23) (y : S1024x1024.Idx) (z : S8192x8192.Idx)
    (hz0 : z 0 = rowOf t (y 0)) (hz1 : z 1 = colOf t (y 1)) : T8 (tileAt m c t) y = residue (aDy m c) (aX m c) (aErr m c) z := by
  show left _ _ = left (val _ _ _ (z 0) (z 1)) (scale _ _ _ (z 0) (blockOf (z 1)))
  rw [hz0, hz1]
  exact congrArg₂ left (tileAt_idx m c t h1 y) (tscl_idx m c t h1 y)

/-- The block of scales at a row of blocks' end is the array's. -/
theorem point4 (c : Dev nD) (t : Fin cfg0.N) (h1 : t.val % 192 = 191) (y : S1024x64.Idx) (z : S8192x64.Idx)
    (hz0 : z 0 = rowOf t (y 0)) (hz1 : z 1 = y 1) : sclAt m c t y = scales (aDy m c) (aX m c) (aErr m c) z := by
  have hy : (y 1).val < 64 := (y 1).isLt
  have hN : t.val < 1536 := Nat.lt_of_lt_of_eq t.isLt N_0
  unfold sclAt
  rw [if_pos (by omega)]
  show _ = scale _ _ _ (z 0) (z 1)
  refine tscl_apply m c _ (by show (192 * (t.val / 192) + 24 * ((y 1).val / 8) + 23) % 24 = 23; omega) (y 0) _ _ _ _ ?_ ?_
  · rw [hz0]
    refine Fin.ext ?_
    show 1024 * (t.val / 192) + (y 0).val = 1024 * ((192 * (t.val / 192) + 24 * ((y 1).val / 8) + 23) / 192) + (y 0).val
    omega
  · rw [hz1]
    show (y 1).val = 8 * ((192 * (t.val / 192) + 24 * ((y 1).val / 8) + 23) / 24 % 8) + (y 1).val % 8
    omega

/-- The codes' array after the run. -/
theorem final3 (c : Dev nD) : (dats m 0 c).arrAt 3 cfg0.N = codes (aDy m c) (aX m c) (aErr m c) := by
  refine (dats m 0 c).arrAt_eq_of_covers 3 _ (by decide +kernel) fun t hf y => ?_
  have h1 : t.val % 24 = 23 := (flush0_3 t).mp hf
  blk_simp
  rw [after0_3]
  refine point3 m c t h1 y _ (Fin.ext ?_) (Fin.ext ?_)
  · show _ = 1024 * (t.val / 192) + (y 0).val
    blk_simp [idx t]; first | done | omega
  · show _ = 1024 * (t.val / 24 % 8) + (y 1).val
    blk_simp [idx t]; first | done | omega

/-- The new error's array after the run. -/
theorem final5 (c : Dev nD) : (dats m 0 c).arrAt 5 cfg0.N = residue (aDy m c) (aX m c) (aErr m c) := by
  refine (dats m 0 c).arrAt_eq_of_covers 5 _ (by decide +kernel) fun t hf y => ?_
  have h1 : t.val % 24 = 23 := (flush0_5 t).mp hf
  blk_simp
  rw [after0_5]
  refine point5 m c t h1 y _ (Fin.ext ?_) (Fin.ext ?_)
  · show _ = 1024 * (t.val / 192) + (y 0).val
    blk_simp [idx t]; first | done | omega
  · show _ = 1024 * (t.val / 24 % 8) + (y 1).val
    blk_simp [idx t]; first | done | omega

/-- The scales' array after the run. -/
theorem final4 (c : Dev nD) : (dats m 0 c).arrAt 4 cfg0.N = scales (aDy m c) (aX m c) (aErr m c) := by
  refine (dats m 0 c).arrAt_eq_of_covers 4 _ (by decide +kernel) fun t hf y => ?_
  have h1 : t.val % 192 = 191 := (flush0_4 t).mp hf
  blk_simp
  rw [after0_4]
  refine point4 m c t h1 y _ (Fin.ext ?_) (Fin.ext ?_)
  · show _ = 1024 * (t.val / 192) + (y 0).val
    blk_simp [idx t]; first | done | omega
  · blk_simp [idx t]; first | done | omega

/-- Every execution of the kernel ends with the three results' arrays as named, the arguments as they were. -/
theorem run_values : θ_run defs (onTc (τ := τ) (main (F := Ideal))) ⟨m, fun _ => 0, ρ⟩ (fun r => ∀ c : Dev nD,
      r.2.mem ((c.tc : Thread nD τ).loc main_v0_0) = codes (aDy m c) (aX m c) (aErr m c)
      ∧ r.2.mem ((c.tc : Thread nD τ).loc main_v0_1) = scales (aDy m c) (aX m c) (aErr m c)
      ∧ r.2.mem ((c.tc : Thread nD τ).loc main_v0_2) = residue (aDy m c) (aX m c) (aErr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c), ((h.1 c).1 5).trans (final5 m c),
      ((h.1 c).1 1).trans (((dats m 0 c).arrAt_in 1 rfl _).trans ((A_eq m c 1).trans (V_main_arg0 m c))),
      ((h.1 c).1 0).trans (((dats m 0 c).arrAt_in 0 rfl _).trans ((A_eq m c 0).trans (V_main_arg1 m c))),
      ((h.1 c).1 2).trans (((dats m 0 c).arrAt_in 2 rfl _).trans ((A_eq m c 2).trans (V_main_arg2 m c)))⟩) (run_main_quiescent m ρ)

/-- Every execution of the kernel ends, its arguments as they were and every semaphore zero. -/
theorem frame_quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.KernelIdeal.Gen

end
-- ==== Proof.RefDefs.lean ====
/- What the reference's host operations compute, stage by stage. -/
module

public import proofs.«01_k».proof.Proof.Gen.ReferenceIdeal.Frame
public import proofs.«01_k».proof.Proof.Spec
public import Idealize.ShloMosaic.Lib.Pointwise
public import Idealize.ShloMosaic.Lib.Claim

@[expose] public section

set_option maxRecDepth 16384

noncomputable section

namespace Cert.ReferenceIdeal.Host

open Idealize.ShloMosaic Idealize.ShloMosaic.TcCoe Idealize.SL.Sem
open Cert.ReferenceIdeal Cert.ReferenceIdeal.Gen Cert.Quant Cert.Spec

/-- The gradient plus the carried error. -/
def rV (dy x : FVec Ideal S24576x8192 .bf16) (err : FVec Ideal S8192x8192 .f32) : FVec Ideal S8192x8192 .f32 :=
  addf (Host.dotGeneral dot_S24576x8192_S24576x8192_S8192x8192_0_0_1_1_n_n none dy x) err

/-- The same in blocks of 128 columns. -/
def rB (v : FVec Ideal S8192x8192 .f32) : FVec Ideal S8192x64x128 .f32 :=
  shapeCast S8192x64x128 v shapeCasts_S8192x8192_S8192x64x128

/-- Each block's largest absolute value. -/
def rAmax (v : FVec Ideal S8192x8192 .f32) : FVec Ideal S8192x64 .f32 :=
  Host.reduce FloatOps.maximumf (Host.absf (rB v)) (constant S_ .f32 0xFF800000#32) reducesTo_S8192x64x128_S8192x64_d2 h_S_

/-- Each block's scale. -/
def rScl (v : FVec Ideal S8192x8192 .f32) : FVec Ideal S8192x64 .f32 :=
  select (cmpf .oeq (rAmax v) (broadcastInDim S8192x64 ![] bcast_S_S8192x64 (constant (F := Ideal) S_ .f32 0x00000000#32)))
    (broadcastInDim S8192x64 ![] bcast_S_S8192x64 (constant (F := Ideal) S_ .f32 0x3F800000#32))
    (Host.divf (rAmax v) (broadcastInDim S8192x64 ![] bcast_S_S8192x64 (constant (F := Ideal) S_ .f32 0x42FE0000#32)))

/-- Each block's scale at each of its elements. -/
def rSclB (v : FVec Ideal S8192x8192 .f32) : FVec Ideal S8192x64x128 .f32 :=
  broadcastInDim S8192x64x128 ![0, 1, 2] bcast_S8192x64x1_S8192x64x128_0_1_2
    (broadcastInDim S8192x64x1 ![0, 1] bcast_S8192x64_S8192x64x1_0_1 (rScl v))

/-- Each element's code, as a float. -/
def rCode (v : FVec Ideal S8192x8192 .f32) : FVec Ideal S8192x64x128 .f32 :=
  minimumf (broadcastInDim S8192x64x128 ![] bcast_S_S8192x64x128 (sitofp (F := Ideal) .f32 (constantI S_ 32 127#32)))
    (maximumf (broadcastInDim S8192x64x128 ![] bcast_S_S8192x64x128 (sitofp (F := Ideal) .f32 (constantI S_ 32 4294967169#32)))
      (Host.roundeven (Host.divf (rB v) (rSclB v))))

/-- An array of blocks laid out in rows again. -/
def flat (u : FVec Ideal S8192x64x128 .f32) : FVec Ideal S8192x8192 .f32 :=
  shapeCast S8192x8192 u shapeCasts_S8192x64x128_S8192x8192

/-- Column `128 b + l`. -/
def colAt (b : Fin 64) (l : Fin 128) : Fin 8192 := ⟨128 * b.val + l.val, by have := l.isLt; have := b.isLt; omega⟩

end Cert.ReferenceIdeal.Host

end
-- ==== Proof.RefEntry.lean ====
/- What the reference's buffers hold when its gridless call is entered. -/
module

public import proofs.«01_k».proof.Proof.Gen.ReferenceIdeal.Frame
public import proofs.«01_k».proof.Proof.RefDefs
public import Idealize.ShloMosaic.Lib.Pointwise
public import Idealize.ShloMosaic.Lib.Claim

@[expose] public section

set_option maxRecDepth 16384

noncomputable section

namespace Cert.ReferenceIdeal.Host

open Idealize.ShloMosaic Idealize.ShloMosaic.TcCoe Idealize.SL.Sem
open Cert.ReferenceIdeal Cert.ReferenceIdeal.Gen Cert.Quant Cert.Spec

variable (m : (ℓ : Loc nD τ sig) → Buf (Elt Ideal) ℓ) (ρ : Dev nD → PrngReg)

/-- The upstream gradient's array, -/
abbrev aDy (c : Dev nD) : FVec Ideal S24576x8192 .bf16 := m ((c : Thread nD τ).loc main_arg1)
/-- the inputs' array, -/
abbrev aX (c : Dev nD) : FVec Ideal S24576x8192 .bf16 := m ((c : Thread nD τ).loc main_arg0)
/-- and the carried error's. -/
abbrev aErr (c : Dev nD) : FVec Ideal S8192x8192 .f32 := m ((c : Thread nD τ).loc main_arg2)

/-- The gradient plus the carried error. -/
theorem V_v1 (c : Dev nD) : V m c main_v1 = rV (aDy m c) (aX m c) (aErr m c) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results
  rfl

/-- The scales. -/
theorem V_v9 (c : Dev nD) : V m c main_v9 = rScl (rV (aDy m c) (aX m c) (aErr m c)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results
  simp -implicitDefEqProofs only [StableHlo.TRef.toBuf, StableHlo.TRef.ofBuf, cast_cast, cast_eq]
  unfold rScl rAmax rB rV
  rfl

/-- The scales at each element. -/
theorem V_v16 (c : Dev nD) : V m c main_v16 = flat (rSclB (rV (aDy m c) (aX m c) (aErr m c))) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results
  simp -implicitDefEqProofs only [StableHlo.TRef.toBuf, StableHlo.TRef.ofBuf, cast_cast, cast_eq]
  unfold flat rSclB rScl rAmax rB rV
  rfl

/-- The codes, as floats. -/
theorem V_v15 (c : Dev nD) : V m c main_v15 = flat (rCode (rV (aDy m c) (aX m c) (aErr m c))) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil,
    List.cons_append, List.nil_append]
  after_results
  simp -implicitDefEqProofs only [StableHlo.TRef.toBuf, StableHlo.TRef.ofBuf, cast_cast, cast_eq]
  unfold flat rCode rSclB rScl rAmax rB rV
  rfl

end Cert.ReferenceIdeal.Host

end
-- ==== Proof.RefHost.lean ====
/- The reference's host stages, element by element. -/
module

public import proofs.«01_k».proof.Proof.Gen.ReferenceIdeal.Frame
public import proofs.«01_k».proof.Proof.RefDefs
public import Idealize.ShloMosaic.Lib.Pointwise
public import Idealize.ShloMosaic.Lib.Claim

@[expose] public section

set_option maxRecDepth 16384

noncomputable section

namespace Cert.ReferenceIdeal.Host

open Idealize.ShloMosaic Idealize.ShloMosaic.TcCoe Idealize.SL.Sem
open Cert.ReferenceIdeal Cert.ReferenceIdeal.Gen Cert.Quant Cert.Spec

/-- The sum at an element. -/
theorem rV_apply (dy x : FVec Ideal S24576x8192 .bf16) (err : FVec Ideal S8192x8192 .f32) (r l : Fin 8192) :
    rV dy x err (ix2 r l) = val dy x err r l := by
  pointwise [rV, val]

/-- A block's element is the row's. -/
theorem rB_apply (v : FVec Ideal S8192x8192 .f32) (r : Fin 8192) (b : Fin 64) (l : Fin 128) :
    rB v (ix3 r b l) = v (ix2 r (colAt b l)) := by
  have h : colAt b l = ⟨b.val * 128 + l.val, by have := l.isLt; have := b.isLt; omega⟩ := Fin.ext (by show 128 * b.val + l.val = b.val * 128 + l.val; omega)
  rw [h]
  pointwise [rB]

/-- A block's scale, at each of its elements. -/
theorem rSclB_apply (v : FVec Ideal S8192x8192 .f32) (r : Fin 8192) (b : Fin 64) (l : Fin 128) :
    rSclB v (ix3 r b l) = rScl v (ix2 r b) := by
  pointwise [rSclB]

/-- An element of a row is its block's. -/
theorem flat_apply (u : FVec Ideal S8192x64x128 .f32) (r L : Fin 8192) :
    flat u (ix2 r L) = u (ix3 r (blockOf L) ⟨L.val % 128, Nat.mod_lt _ (by decide)⟩) := by
  pointwise [flat, blockOf]

/-- The largest absolute value of a block. -/
theorem rAmax_apply (v : FVec Ideal S8192x8192 .f32) (r : Fin 8192) (b : Fin 64) :
    rAmax v (ix2 r b) = amax fun l => rB v (ix3 r b l) := by
  pointwise [rAmax, amax]

/-- The scale from the largest absolute value, over any shape. -/
theorem scl_core {s : Shape} (A z o d : FVec Ideal s .f32) (j : s.Idx) (hz : z j = Ideal.ofBits .f32 0x00000000#32)
    (ho : o j = Ideal.ofBits .f32 0x3F800000#32) (f : Fin 128 → EReal) (hf : A j = amax f) (hd : d j = Ideal.ofBits .f32 0x42FE0000#32) :
    select (cmpf .oeq A z) o (Host.divf A d) j = scl f := by
  unfold scl
  rw [← hf, ← hd]
  pointwise []
  rw [hz, ho]
  pointwise []

/-- The code over any shape. -/
theorem code_core {s : Shape} (lo hi : FVec Ideal s .f32) (x q : FVec Ideal s .f32) (j : s.Idx)
    (hlo : lo j = FloatOps.sitofp (F := Ideal) .f32 4294967169#32) (hhi : hi j = FloatOps.sitofp (F := Ideal) .f32 127#32) :
    minimumf hi (maximumf lo (Host.roundeven (Host.divf x q))) j = code (x j) (q j) := by
  unfold code
  show min (hi j) (max (lo j) _) = _
  rw [hlo, hhi]
  rfl

/-- A constant broadcast is that constant everywhere. -/
theorem bcast_const {s t : Shape} (dims : Fin s.rank → Fin t.rank) (h : s.BroadcastsInDim t dims) (w : BitVec 32) (j : t.Idx) :
    broadcastInDim t dims h (constant (F := Ideal) s .f32 w) j = Ideal.ofBits .f32 w := rfl

/-- The same of an integer constant converted. -/
theorem bcast_int {s t : Shape} (dims : Fin s.rank → Fin t.rank) (h : s.BroadcastsInDim t dims) (w : BitVec 32) (j : t.Idx) :
    broadcastInDim t dims h (sitofp (F := Ideal) .f32 (constantI s 32 w)) j = FloatOps.sitofp (F := Ideal) .f32 w := rfl

/-- A block's scale. -/
theorem rScl_apply (v : FVec Ideal S8192x8192 .f32) (r : Fin 8192) (b : Fin 64) :
    rScl v (ix2 r b) = scl fun l => v (ix2 r (colAt b l)) := by
  unfold rScl
  exact scl_core _ _ _ _ _ (bcast_const _ _ _ _) (bcast_const _ _ _ _) _
    ((rAmax_apply v r b).trans (congrArg amax (funext fun l => rB_apply v r b l))) (bcast_const _ _ _ _)

/-- An element's code. -/
theorem rCode_apply (v : FVec Ideal S8192x8192 .f32) (r : Fin 8192) (b : Fin 64) (l : Fin 128) :
    rCode v (ix3 r b l) = code (v (ix2 r (colAt b l))) (scl fun l => v (ix2 r (colAt b l))) := by
  unfold rCode
  refine (code_core _ _ _ _ _ (bcast_int _ _ _ _) (bcast_int _ _ _ _)).trans ?_
  exact congrArg₂ code (rB_apply v r b l) ((rSclB_apply v r b l).trans (rScl_apply v r b))

/-- The block's scale of the gradient plus the carried error. -/
theorem scale_eq (dy x : FVec Ideal S24576x8192 .bf16) (err : FVec Ideal S8192x8192 .f32) (r : Fin 8192) (b : Fin 64) :
    (scl fun l => rV dy x err (ix2 r (colAt b l))) = scale dy x err r b :=
  congrArg scl (funext fun l => rV_apply dy x err r (colAt b l))

/-- The column of an element from its block and its place in the block. -/
theorem colAt_blockOf (L : Fin 8192) : colAt (blockOf L) ⟨L.val % 128, Nat.mod_lt _ (by decide)⟩ = L :=
  Fin.ext (by show 128 * (L.val / 128) + L.val % 128 = L.val; omega)

/-- The scales' result. -/
theorem rScl_eq (dy x : FVec Ideal S24576x8192 .bf16) (err : FVec Ideal S8192x8192 .f32) : rScl (rV dy x err) = scales dy x err := by
  funext y
  refine (congrArg (rScl (rV dy x err)) (ix2_eta y).symm).trans ?_
  exact (rScl_apply _ _ _).trans (scale_eq dy x err (y 0) (y 1))

/-- The codes the gridless call takes, as floats. -/
theorem flatCode_eq (dy x : FVec Ideal S24576x8192 .bf16) (err : FVec Ideal S8192x8192 .f32) (r L : Fin 8192) :
    flat (rCode (rV dy x err)) (ix2 r L) = code (val dy x err r L) (scale dy x err r (blockOf L)) := by
  refine (flat_apply _ r L).trans ((rCode_apply _ _ _ _).trans ?_)
  rw [colAt_blockOf]
  exact congrArg₂ code (rV_apply dy x err r L) (scale_eq dy x err r (blockOf L))

/-- The scales the gridless call takes. -/
theorem flatScl_eq (dy x : FVec Ideal S24576x8192 .bf16) (err : FVec Ideal S8192x8192 .f32) (r L : Fin 8192) :
    flat (rSclB (rV dy x err)) (ix2 r L) = scale dy x err r (blockOf L) :=
  (flat_apply _ r L).trans ((rSclB_apply _ _ _ _).trans ((rScl_apply _ _ _).trans (scale_eq dy x err r (blockOf L))))

end Cert.ReferenceIdeal.Host

end
-- ==== Proof.RefValue.lean ====
/- What the reference's three result arrays hold after the run. -/
module

public import proofs.«01_k».proof.Proof.RefEntry
public import proofs.«01_k».proof.Proof.RefHost
public import Idealize.ShloMosaic.Lib.Pipeline.ValueKit
public import Idealize.ShloMosaic.Lib.Pointwise

@[expose] public section

set_option maxRecDepth 16384
set_option maxHeartbeats 4000000

noncomputable section

namespace Cert.ReferenceIdeal.Host

open Idealize.ShloMosaic Idealize.ShloMosaic.TcCoe Idealize.ShloMosaic.Tactic Idealize.SL.Sem
open Idealize.ShloMosaic.Pipeline (Dat)
open Cert.ReferenceIdeal Cert.ReferenceIdeal.Gen Cert.Quant Cert.Spec

variable (m : (ℓ : Loc nD τ sig) → Buf (Elt Ideal) ℓ) (ρ : Dev nD → PrngReg)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The codes' block, read out of any array, is the array. -/
theorem read0 (A : FVec Ideal S8192x8192 .f32) (t : Fin cfg0.N) : ((cfg0.win 0).blk t).view.read (Elt Ideal) A = A := by
  funext y
  blk_ext [idx t]

/-- The codes' block is what the buffer holds at the call's entry. -/
theorem iblk0_eq (c : Dev nD) (t : Fin cfg0.N) : iblk m c 0 t = V m c main_v15 := by
  unfold iblk
  exact read0 (V m c main_v15) t

/-- The scales' block, read out of any array, is the array. -/
theorem read1 (A : FVec Ideal S8192x8192 .f32) (t : Fin cfg0.N) : ((cfg0.win 1).blk t).view.read (Elt Ideal) A = A := by
  funext y
  blk_ext [idx t]

/-- The scales' block is what the buffer holds at the call's entry. -/
theorem iblk1_eq (c : Dev nD) (t : Fin cfg0.N) : iblk m c 1 t = V m c main_v16 := by
  unfold iblk
  exact read1 (V m c main_v16) t

/-- The quantised values' block, read out of any array, is the array. -/
theorem read2 (A : FVec Ideal S8192x8192 .f32) (t : Fin cfg0.N) : ((cfg0.win 2).blk t).view.read (Elt Ideal) A = A := by
  funext y
  blk_ext [idx t]

/-- The quantised values' block is what the buffer holds at the call's entry. -/
theorem iblk2_eq (c : Dev nD) (t : Fin cfg0.N) : iblk m c 2 t = V m c main_v1 := by
  unfold iblk
  exact read2 (V m c main_v1) t

/-- The codes' block at an element. -/
theorem iblk0_apply (c : Dev nD) (t : Fin cfg0.N) (r l : Fin 8192) :
    (show Vec Ideal S8192x8192 .f32 from iblk m c 0 t) (ix2 r l)
      = code (val (aDy m c) (aX m c) (aErr m c) r l) (scale (aDy m c) (aX m c) (aErr m c) r (blockOf l)) :=
  (congrFun ((iblk0_eq m c t).trans (V_v15 m c)) (ix2 r l)).trans (flatCode_eq _ _ _ r l)

/-- The scales' block at an element. -/
theorem iblk1_apply (c : Dev nD) (t : Fin cfg0.N) (r l : Fin 8192) :
    (show Vec Ideal S8192x8192 .f32 from iblk m c 1 t) (ix2 r l) = scale (aDy m c) (aX m c) (aErr m c) r (blockOf l) :=
  (congrFun ((iblk1_eq m c t).trans (V_v16 m c)) (ix2 r l)).trans (flatScl_eq _ _ _ r l)

/-- The quantised values' block at an element. -/
theorem iblk2_apply (c : Dev nD) (t : Fin cfg0.N) (r l : Fin 8192) :
    (show Vec Ideal S8192x8192 .f32 from iblk m c 2 t) (ix2 r l) = val (aDy m c) (aX m c) (aErr m c) r l :=
  (congrFun ((iblk2_eq m c t).trans (V_v1 m c)) (ix2 r l)).trans (rV_apply _ _ _ r l)

/-- The stored codes at an element. -/
theorem pay1_apply (q : FVec Ideal S8192x8192 .f32) (r l : Fin 8192) :
    k0_pay1 (F := Ideal) q (ix2 r l) = FloatOps.fptosi (F := Ideal) (φ := .f32) 8 (q (ix2 r l)) := by
  pointwise [k0_pay1]

/-- The stored error at an element. -/
theorem pay2_apply (q s v : FVec Ideal S8192x8192 .f32) (r l : Fin 8192) :
    k0_pay2 (F := Ideal) q s v (ix2 r l)
      = v (ix2 r l) - FloatOps.sitofp (F := Ideal) .f32 (FloatOps.fptosi (F := Ideal) (φ := .f32) 8 (q (ix2 r l))) * s (ix2 r l) := by
  pointwise [k0_pay2, k0_pay1]

/-- The codes' payload at an element. -/
theorem point3 (c : Dev nD) (t : Fin cfg0.N) (y z : S8192x8192.Idx) (hz : y = z) :
    k0_pay1 (F := Ideal) (iblk m c 0 t) y = codes (aDy m c) (aX m c) (aErr m c) z := by
  subst hz
  refine (congrArg (k0_pay1 (F := Ideal) (iblk m c 0 t)) (ix2_eta y).symm).trans ((pay1_apply _ _ _).trans ?_)
  exact congrArg (FloatOps.fptosi (F := Ideal) (φ := .f32) 8) (iblk0_apply m c t (y 0) (y 1))

/-- The new error's payload at an element. -/
theorem point4 (c : Dev nD) (t : Fin cfg0.N) (y z : S8192x8192.Idx) (hz : y = z) :
    k0_pay2 (F := Ideal) (iblk m c 0 t) (iblk m c 1 t) (iblk m c 2 t) y = residue (aDy m c) (aX m c) (aErr m c) z := by
  subst hz
  refine (congrArg (k0_pay2 (F := Ideal) (iblk m c 0 t) (iblk m c 1 t) (iblk m c 2 t)) (ix2_eta y).symm).trans ((pay2_apply _ _ _ _ _).trans ?_)
  refine congrArg₂ (fun a b : EReal => a - b) (iblk2_apply m c t (y 0) (y 1))
    (congrArg₂ (fun a b : EReal => a * b) ?_ (iblk1_apply m c t (y 0) (y 1)))
  exact (congrArg (fun a : EReal => FloatOps.sitofp (F := Ideal) .f32 (FloatOps.fptosi (F := Ideal) (φ := .f32) 8 a))
    (iblk0_apply m c t (y 0) (y 1))).trans (code_round_trip _ _)

/-- The codes' array after the run. -/
theorem final3 (c : Dev nD) : (dats m 0 c).arrAt 3 cfg0.N = codes (aDy m c) (aX m c) (aErr m c) := by
  refine (dats m 0 c).arrAt_eq_of_covers 3 _ (by decide +kernel) fun t hf y => ?_
  blk_simp
  rw [after0_3]
  frame_out
  refine point3 m c t y _ ?_
  blk_ext [idx t]

/-- The new error's array after the run. -/
theorem final4 (c : Dev nD) : (dats m 0 c).arrAt 4 cfg0.N = residue (aDy m c) (aX m c) (aErr m c) := by
  refine (dats m 0 c).arrAt_eq_of_covers 4 _ (by decide +kernel) fun t hf y => ?_
  blk_simp
  rw [after0_4]
  frame_out
  refine point4 m c t y _ ?_
  blk_ext [idx t]

/-- Every execution of the reference ends with the three results' arrays as named, the arguments as they were. -/
theorem run_values : θ_run defs (onTc (τ := τ) (main (F := Ideal))) ⟨m, fun _ => 0, ρ⟩ (fun r => ∀ c : Dev nD,
      r.2.mem ((c.tc : Thread nD τ).loc main_v17_0) = codes (aDy m c) (aX m c) (aErr m c)
      ∧ r.2.mem ((c.tc : Thread nD τ).loc main_v9) = scales (aDy m c) (aX m c) (aErr m c)
      ∧ r.2.mem ((c.tc : Thread nD τ).loc main_v17_1) = residue (aDy m c) (aX m c) (aErr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final3 m c),
      ((h c).2 main_v9 (Pipeline.mem_restRefs_of main_v9 (by decide) (by decide))).trans ((V_v9 m c).trans (rScl_eq _ _ _)),
      ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.ReferenceIdeal.Host

end
-- ==== Proof.lean ====
module

public import proofs.«01_k».proof.Proof.KFrame
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From the same arguments, kernel and reference end with the same codes, scales and new error. -/
theorem algebraic [hKernelIdeal : Cert.KernelIdeal.Facts] [hReferenceIdeal : Cert.ReferenceIdeal.Facts] :
    algebraic_KernelIdeal_ReferenceIdeal := by
  intro m g m' g' hpre hagree
  refine ⟨fun c => Cert.Spec.codes (Cert.KernelIdeal.Gen.aDy m c) (Cert.KernelIdeal.Gen.aX m c) (Cert.KernelIdeal.Gen.aErr m c),
    fun c => Cert.Spec.scales (Cert.KernelIdeal.Gen.aDy m c) (Cert.KernelIdeal.Gen.aX m c) (Cert.KernelIdeal.Gen.aErr m c),
    fun c => Cert.Spec.residue (Cert.KernelIdeal.Gen.aDy m c) (Cert.KernelIdeal.Gen.aX m c) (Cert.KernelIdeal.Gen.aErr m c),
    Cert.KernelIdeal.Gen.run_values m g, ?_⟩
  refine (θ_run _ _ _).mono (fun _ h c => ?_) (Cert.ReferenceIdeal.Host.run_values m' g')
  have hx : Cert.ReferenceIdeal.Host.aX m' c = Cert.KernelIdeal.Gen.aX m c := (hagree c).1
  have hdy : Cert.ReferenceIdeal.Host.aDy m' c = Cert.KernelIdeal.Gen.aDy m c := (hagree c).2.1
  have herr : Cert.ReferenceIdeal.Host.aErr m' c = Cert.KernelIdeal.Gen.aErr m c := (hagree c).2.2
  have hc := h c
  rw [hx, hdy, herr] at hc
  exact hc

/-- The five claims. -/
theorem claim : Cert.Claim := ⟨Cert.Kernel.Gen.facts, Cert.KernelIdeal.Gen.facts, Cert.ReferenceIdeal.Gen.facts,
  fun m ρ _ => Cert.Kernel.Gen.frame_quiescent m ρ, fun m ρ _ => Cert.KernelIdeal.Gen.frame_quiescent m ρ,
  fun m ρ _ => Cert.ReferenceIdeal.Gen.frame m ρ, trivial, algebraic⟩

end Cert.Proof

end
